-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v0) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v0) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)) (v2 : (c : Dev Cert.DhIdeal.nD) → Buf (Elt Ideal) ((c.tc : Thread Cert.DhIdeal.nD Cert.DhIdeal.τ).loc Cert.DhIdeal.main_v2_2)) (v3 : (c : Dev Cert.DhIdeal.nD) → Buf (Elt Ideal) ((c.tc : Thread Cert.DhIdeal.nD Cert.DhIdeal.τ).loc Cert.DhIdeal.main_v2_3)) (v4 : (c : Dev Cert.DhIdeal.nD) → Buf (Elt Ideal) ((c.tc : Thread Cert.DhIdeal.nD Cert.DhIdeal.τ).loc Cert.DhIdeal.main_v2_4)) (v5 : (c : Dev Cert.DhIdeal.nD) → Buf (Elt Ideal) ((c.tc : Thread Cert.DhIdeal.nD Cert.DhIdeal.τ).loc Cert.DhIdeal.main_v2_5)) (v6 : (c : Dev Cert.DhIdeal.nD) → Buf (Elt Ideal) ((c.tc : Thread Cert.DhIdeal.nD Cert.DhIdeal.τ).loc Cert.DhIdeal.main_v2_6)) (v7 : (c : Dev Cert.DhIdeal.nD) → Buf (Elt Ideal) ((c.tc : Thread Cert.DhIdeal.nD Cert.DhIdeal.τ).loc Cert.DhIdeal.main_v2_7)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_v2_2) = v2 c
          ∧ r.2.mem ((c.tc : Thread Cert.DhIdeal.nD Cert.DhIdeal.τ).loc Cert.DhIdeal.main_v2_3) = v3 c
          ∧ r.2.mem ((c.tc : Thread Cert.DhIdeal.nD Cert.DhIdeal.τ).loc Cert.DhIdeal.main_v2_4) = v4 c
          ∧ r.2.mem ((c.tc : Thread Cert.DhIdeal.nD Cert.DhIdeal.τ).loc Cert.DhIdeal.main_v2_5) = v5 c
          ∧ r.2.mem ((c.tc : Thread Cert.DhIdeal.nD Cert.DhIdeal.τ).loc Cert.DhIdeal.main_v2_6) = v6 c
          ∧ r.2.mem ((c.tc : Thread Cert.DhIdeal.nD Cert.DhIdeal.τ).loc Cert.DhIdeal.main_v2_7) = v7 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v0_0) = v0 c
          ∧ r.2.mem ((c.tc : Thread Cert.DhRefIdeal.nD Cert.DhRefIdeal.τ).loc Cert.DhRefIdeal.main_v0_1) = v1 c
          ∧ r.2.mem ((c.tc : Thread Cert.DhRefIdeal.nD Cert.DhRefIdeal.τ).loc Cert.DhRefIdeal.main_v0_2) = v2 c
          ∧ r.2.mem ((c.tc : Thread Cert.DhRefIdeal.nD Cert.DhRefIdeal.τ).loc Cert.DhRefIdeal.main_v0_3) = v3 c
          ∧ r.2.mem ((c.tc : Thread Cert.DhRefIdeal.nD Cert.DhRefIdeal.τ).loc Cert.DhRefIdeal.main_v0_4) = v4 c
          ∧ r.2.mem ((c.tc : Thread Cert.DhRefIdeal.nD Cert.DhRefIdeal.τ).loc Cert.DhRefIdeal.main_v0_5) = v5 c
          ∧ r.2.mem ((c.tc : Thread Cert.DhRefIdeal.nD Cert.DhRefIdeal.τ).loc Cert.DhRefIdeal.main_v0_6) = v6 c
          ∧ r.2.mem ((c.tc : Thread Cert.DhRefIdeal.nD Cert.DhRefIdeal.τ).loc Cert.DhRefIdeal.main_v0_7) = v7 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def Claim : Prop :=
  ∃ (hDx : Cert.Dx.Facts) (hDxIdeal : Cert.DxIdeal.Facts) (hDxRefIdeal : Cert.DxRefIdeal.Facts) (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hDh : Cert.Dh.Facts) (hDhIdeal : Cert.DhIdeal.Facts) (hDhRefIdeal : Cert.DhRefIdeal.Facts),
    quiescent_Dx (hDx := hDx)
    ∧ quiescent_DxIdeal (hDxIdeal := hDxIdeal)
    ∧ quiescent_DxRefIdeal (hDxRefIdeal := hDxRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dh (hDh := hDh)
    ∧ quiescent_DhIdeal (hDhIdeal := hDhIdeal)
    ∧ quiescent_DhRefIdeal (hDhRefIdeal := hDhRefIdeal)
    ∧ preserves_Dx_DxIdeal
    ∧ algebraic_DxIdeal_DxRefIdeal (hDxIdeal := hDxIdeal) (hDxRefIdeal := hDxRefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_Dh_DhIdeal
    ∧ algebraic_DhIdeal_DhRefIdeal (hDhIdeal := hDhIdeal) (hDhRefIdeal := hDhRefIdeal)
-- ==== Dx.lean ====
abbrev S6144x6912 : Shape := ⟨2, ![6144, 6912]⟩
abbrev S6144x54 : Shape := ⟨2, ![6144, 54]⟩
abbrev S4096x6912 : Shape := ⟨2, ![4096, 6912]⟩
abbrev S32x54 : Shape := ⟨2, ![32, 54]⟩
abbrev S32x54x128 : Shape := ⟨3, ![32, 54, 128]⟩
abbrev S32x6912 : Shape := ⟨2, ![32, 6912]⟩
abbrev S2x16x6912 : Shape := ⟨3, ![2, 16, 6912]⟩
abbrev S6144x4096 : Shape := ⟨2, ![6144, 4096]⟩
abbrev S2048x6912 : Shape := ⟨2, ![2048, 6912]⟩
abbrev S512x6912 : Shape := ⟨2, ![512, 6912]⟩
abbrev S512x54 : Shape := ⟨2, ![512, 54]⟩
abbrev S1x16x6912 : Shape := ⟨3, ![1, 16, 6912]⟩
abbrev S512x2048 : Shape := ⟨2, ![512, 2048]⟩
abbrev S128x54 : Shape := ⟨2, ![128, 54]⟩
abbrev S128x1 : Shape := ⟨2, ![128, 1]⟩
abbrev S128x128 : Shape := ⟨2, ![128, 128]⟩
abbrev S128x6912 : Shape := ⟨2, ![128, 6912]⟩
abbrev S1x1x6912 : Shape := ⟨3, ![1, 1, 6912]⟩
abbrev S1x6912 : Shape := ⟨2, ![1, 6912]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S6144x6912, .fp8e5m2⟩
  | .hbm, ⟨1, _⟩ => ⟨S6144x54, .f32⟩
  | .hbm, ⟨2, _⟩ => ⟨S4096x6912, .fp8e4m3⟩
  | .hbm, ⟨3, _⟩ => ⟨S32x54, .f32⟩
  | .hbm, ⟨4, _⟩ => ⟨S32x54x128, .f32⟩
  | .hbm, ⟨5, _⟩ => ⟨S32x6912, .f32⟩
  | .hbm, ⟨6, _⟩ => ⟨S2x16x6912, .f32⟩
  | .hbm, ⟨7, _⟩ => ⟨S6144x4096, .bf16⟩
  | .local _ .vmem, ⟨0, _⟩ => ⟨S2048x6912, .fp8e4m3⟩
  | .local _ .vmem, ⟨1, _⟩ => ⟨S512x6912, .fp8e5m2⟩
  | .local _ .vmem, ⟨2, _⟩ => ⟨S512x6912, .fp8e5m2⟩
  | .local _ .vmem, ⟨3, _⟩ => ⟨S512x54, .f32⟩
  | .local _ .vmem, ⟨4, _⟩ => ⟨S512x54, .f32⟩
  | .local _ .vmem, ⟨5, _⟩ => ⟨S1x16x6912, .f32⟩
  | .local _ .vmem, ⟨6, _⟩ => ⟨S1x16x6912, .f32⟩
  | .local _ .vmem, ⟨7, _⟩ => ⟨S512x2048, .bf16⟩
  | .local _ .vmem, ⟨8, _⟩ => ⟨S512x2048, .bf16⟩
  | .local _ .vmem, ⟨9, _⟩ => ⟨S512x6912, .bf16⟩
  | _, _ => ⟨S6144x6912, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x6912 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x54 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x6912 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DxRefIdeal.lean ====
abbrev S6144x6912 : Shape := ⟨2, ![6144, 6912]⟩
abbrev S6144x54 : Shape := ⟨2, ![6144, 54]⟩
abbrev S4096x6912 : Shape := ⟨2, ![4096, 6912]⟩
abbrev S32x54 : Shape := ⟨2, ![32, 54]⟩
abbrev S6144x4096 : Shape := ⟨2, ![6144, 4096]⟩
abbrev S6144x54x128 : Shape := ⟨3, ![6144, 54, 128]⟩
abbrev S6144x54x1 : Shape := ⟨3, ![6144, 54, 1]⟩
abbrev S32x128x54x128 : Shape := ⟨4, ![32, 128, 54, 128]⟩
abbrev S32x1x54x1 : Shape := ⟨4, ![32, 1, 54, 1]⟩

abbrev nBuf : Space → Nat
  | .hbm => 5
  | .vmem => 5
  | .smem => 0
  | _ => 0

abbrev bufTy : (tb : Table) → Fin (tcTables nBuf tb) → BufTy
  | .hbm, ⟨0, _⟩ => ⟨S6144x6912, .fp8e5m2⟩
  | .hbm, ⟨1, _⟩ => ⟨S6144x54, .f32⟩
  | .hbm, ⟨2, _⟩ => ⟨S4096x6912, .fp8e4m3⟩
  | .hbm, ⟨3, _⟩ => ⟨S32x54, .f32⟩
  | .hbm, ⟨4, _⟩ => ⟨S6144x4096, .bf16⟩
  | .local _ .vmem, ⟨0, _⟩ => ⟨S6144x6912, .fp8e5m2⟩
  | .local _ .vmem, ⟨1, _⟩ => ⟨S6144x54, .f32⟩
  | .local _ .vmem, ⟨2, _⟩ => ⟨S4096x6912, .fp8e4m3⟩
  | .local _ .vmem, ⟨3, _⟩ => ⟨S32x54, .f32⟩
  | .local _ .vmem, ⟨4, _⟩ => ⟨S6144x4096, .bf16⟩
  | _, _ => ⟨S6144x6912, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x6912 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw1.lean ====
abbrev S6144x4096 : Shape := ⟨2, ![6144, 4096]⟩
abbrev S48x4096 : Shape := ⟨2, ![48, 4096]⟩
abbrev S6144x6912 : Shape := ⟨2, ![6144, 6912]⟩
abbrev S48x6912 : Shape := ⟨2, ![48, 6912]⟩
abbrev S4096x6912 : Shape := ⟨2, ![4096, 6912]⟩
abbrev S6144x1024 : Shape := ⟨2, ![6144, 1024]⟩
abbrev S48x1024 : Shape := ⟨2, ![48, 1024]⟩
abbrev S6144x768 : Shape := ⟨2, ![6144, 768]⟩
abbrev S48x768 : Shape := ⟨2, ![48, 768]⟩
abbrev S1024x768 : Shape := ⟨2, ![1024, 768]⟩
abbrev S1024x6144 : Shape := ⟨2, ![1024, 6144]⟩
abbrev S128x1024 : Shape := ⟨2, ![128, 1024]⟩
abbrev S1x1024 : Shape := ⟨2, ![1, 1024]⟩
abbrev S1024x128 : Shape := ⟨2, ![1024, 128]⟩
abbrev S128x256 : Shape := ⟨2, ![128, 256]⟩
abbrev S1x256 : Shape := ⟨2, ![1, 256]⟩
abbrev S6144x256 : Shape := ⟨2, ![6144, 256]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S6144x4096, .fp8e4m3⟩
  | .hbm, ⟨1, _⟩ => ⟨S48x4096, .f32⟩
  | .hbm, ⟨2, _⟩ => ⟨S6144x6912, .fp8e5m2⟩
  | .hbm, ⟨3, _⟩ => ⟨S48x6912, .f32⟩
  | .hbm, ⟨4, _⟩ => ⟨S4096x6912, .bf16⟩
  | .local _ .vmem, ⟨0, _⟩ => ⟨S6144x1024, .fp8e4m3⟩
  | .local _ .vmem, ⟨1, _⟩ => ⟨S6144x1024, .fp8e4m3⟩
  | .local _ .vmem, ⟨2, _⟩ => ⟨S48x1024, .f32⟩
  | .local _ .vmem, ⟨3, _⟩ => ⟨S48x1024, .f32⟩
  | .local _ .vmem, ⟨4, _⟩ => ⟨S6144x768, .fp8e5m2⟩
  | .local _ .vmem, ⟨5, _⟩ => ⟨S6144x768, .fp8e5m2⟩
  | .local _ .vmem, ⟨6, _⟩ => ⟨S48x768, .f32⟩
  | .local _ .vmem, ⟨7, _⟩ => ⟨S48x768, .f32⟩
  | .local _ .vmem, ⟨8, _⟩ => ⟨S1024x768, .bf16⟩
  | .local _ .vmem, ⟨9, _⟩ => ⟨S1024x768, .bf16⟩
  | .local _ .vmem, ⟨10, _⟩ => ⟨S1024x6144, .bf16⟩
  | _, _ => ⟨S6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6144x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x768 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S48x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dw1RefIdeal.lean ====
abbrev S6144x4096 : Shape := ⟨2, ![6144, 4096]⟩
abbrev S48x4096 : Shape := ⟨2, ![48, 4096]⟩
abbrev S6144x6912 : Shape := ⟨2, ![6144, 6912]⟩
abbrev S48x6912 : Shape := ⟨2, ![48, 6912]⟩
abbrev S4096x6912 : Shape := ⟨2, ![4096, 6912]⟩
abbrev S48x128x4096 : Shape := ⟨3, ![48, 128, 4096]⟩
abbrev S48x1x4096 : Shape := ⟨3, ![48, 1, 4096]⟩
abbrev S48x128x6912 : Shape := ⟨3, ![48, 128, 6912]⟩
abbrev S48x1x6912 : Shape := ⟨3, ![48, 1, 6912]⟩

abbrev nBuf : Space → Nat
  | .hbm => 5
  | .vmem => 5
  | .smem => 0
  | _ => 0

abbrev bufTy : (tb : Table) → Fin (tcTables nBuf tb) → BufTy
  | .hbm, ⟨0, _⟩ => ⟨S6144x4096, .fp8e4m3⟩
  | .hbm, ⟨1, _⟩ => ⟨S48x4096, .f32⟩
  | .hbm, ⟨2, _⟩ => ⟨S6144x6912, .fp8e5m2⟩
  | .hbm, ⟨3, _⟩ => ⟨S48x6912, .f32⟩
  | .hbm, ⟨4, _⟩ => ⟨S4096x6912, .bf16⟩
  | .local _ .vmem, ⟨0, _⟩ => ⟨S6144x4096, .fp8e4m3⟩
  | .local _ .vmem, ⟨1, _⟩ => ⟨S48x4096, .f32⟩
  | .local _ .vmem, ⟨2, _⟩ => ⟨S6144x6912, .fp8e5m2⟩
  | .local _ .vmem, ⟨3, _⟩ => ⟨S48x6912, .f32⟩
  | .local _ .vmem, ⟨4, _⟩ => ⟨S4096x6912, .bf16⟩
  | _, _ => ⟨S6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x6912 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw2.lean ====
abbrev S6144x3456 : Shape := ⟨2, ![6144, 3456]⟩
abbrev S48x3456 : Shape := ⟨2, ![48, 3456]⟩
abbrev S6144x4096 : Shape := ⟨2, ![6144, 4096]⟩
abbrev S48x4096 : Shape := ⟨2, ![48, 4096]⟩
abbrev S3456x4096 : Shape := ⟨2, ![3456, 4096]⟩
abbrev S6144x1152 : Shape := ⟨2, ![6144, 1152]⟩
abbrev S48x1152 : Shape := ⟨2, ![48, 1152]⟩
abbrev S6144x512 : Shape := ⟨2, ![6144, 512]⟩
abbrev S48x512 : Shape := ⟨2, ![48, 512]⟩
abbrev S1152x512 : Shape := ⟨2, ![1152, 512]⟩
abbrev S1152x6144 : Shape := ⟨2, ![1152, 6144]⟩
abbrev S128x1152 : Shape := ⟨2, ![128, 1152]⟩
abbrev S1x1152 : Shape := ⟨2, ![1, 1152]⟩
abbrev S1152x128 : Shape := ⟨2, ![1152, 128]⟩
abbrev S128x256 : Shape := ⟨2, ![128, 256]⟩
abbrev S1x256 : Shape := ⟨2, ![1, 256]⟩
abbrev S6144x256 : Shape := ⟨2, ![6144, 256]⟩
abbrev S1152x256 : Shape := ⟨2, ![1152, 256]⟩

abbrev nBuf : Space → Nat
  | .hbm => 5
  | .vmem => 11
  | .smem => 0
  | _ => 0

abbrev bufTy : (tb : Table) → Fin (tcTables nBuf tb) → BufTy
  | .hbm, ⟨0, _⟩ => ⟨S6144x3456, .fp8e4m3⟩
  | .hbm, ⟨1, _⟩ => ⟨S48x3456, .f32⟩
  | .hbm, ⟨2, _⟩ => ⟨S6144x4096, .fp8e5m2⟩
  | .hbm, ⟨3, _⟩ => ⟨S48x4096, .f32⟩
  | .hbm, ⟨4, _⟩ => ⟨S3456x4096, .bf16⟩
  | .local _ .vmem, ⟨0, _⟩ => ⟨S6144x1152, .fp8e4m3⟩
  | .local _ .vmem, ⟨1, _⟩ => ⟨S6144x1152, .fp8e4m3⟩
  | .local _ .vmem, ⟨2, _⟩ => ⟨S48x1152, .f32⟩
  | .local _ .vmem, ⟨3, _⟩ => ⟨S48x1152, .f32⟩
  | .local _ .vmem, ⟨4, _⟩ => ⟨S6144x512, .fp8e5m2⟩
  | .local _ .vmem, ⟨5, _⟩ => ⟨S6144x512, .fp8e5m2⟩
  | .local _ .vmem, ⟨6, _⟩ => ⟨S48x512, .f32⟩
  | .local _ .vmem, ⟨7, _⟩ => ⟨S48x512, .f32⟩
  | .local _ .vmem, ⟨8, _⟩ => ⟨S1152x512, .bf16⟩
  | .local _ .vmem, ⟨9, _⟩ => ⟨S1152x512, .bf16⟩
  | .local _ .vmem, ⟨10, _⟩ => ⟨S1152x6144, .bf16⟩
  | _, _ => ⟨S6144x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6144x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S48x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dw2RefIdeal.lean ====
abbrev S6144x3456 : Shape := ⟨2, ![6144, 3456]⟩
abbrev S48x3456 : Shape := ⟨2, ![48, 3456]⟩
abbrev S6144x4096 : Shape := ⟨2, ![6144, 4096]⟩
abbrev S48x4096 : Shape := ⟨2, ![48, 4096]⟩
abbrev S3456x4096 : Shape := ⟨2, ![3456, 4096]⟩
abbrev S48x128x3456 : Shape := ⟨3, ![48, 128, 3456]⟩
abbrev S48x1x3456 : Shape := ⟨3, ![48, 1, 3456]⟩
abbrev S48x128x4096 : Shape := ⟨3, ![48, 128, 4096]⟩
abbrev S48x1x4096 : Shape := ⟨3, ![48, 1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S6144x3456, .fp8e4m3⟩
  | .hbm, ⟨1, _⟩ => ⟨S48x3456, .f32⟩
  | .hbm, ⟨2, _⟩ => ⟨S6144x4096, .fp8e5m2⟩
  | .hbm, ⟨3, _⟩ => ⟨S48x4096, .f32⟩
  | .hbm, ⟨4, _⟩ => ⟨S3456x4096, .bf16⟩
  | .local _ .vmem, ⟨0, _⟩ => ⟨S6144x3456, .fp8e4m3⟩
  | .local _ .vmem, ⟨1, _⟩ => ⟨S48x3456, .f32⟩
  | .local _ .vmem, ⟨2, _⟩ => ⟨S6144x4096, .fp8e5m2⟩
  | .local _ .vmem, ⟨3, _⟩ => ⟨S48x4096, .f32⟩
  | .local _ .vmem, ⟨4, _⟩ => ⟨S3456x4096, .bf16⟩
  | _, _ => ⟨S6144x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x3456 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x3456 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3456x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dh.lean ====
abbrev S6144x4096 : Shape := ⟨2, ![6144, 4096]⟩
abbrev S6144x6912 : Shape := ⟨2, ![6144, 6912]⟩
abbrev S3456x4096 : Shape := ⟨2, ![3456, 4096]⟩
abbrev S27x32 : Shape := ⟨2, ![27, 32]⟩
abbrev S27x32x128 : Shape := ⟨3, ![27, 32, 128]⟩
abbrev S27x4096 : Shape := ⟨2, ![27, 4096]⟩
abbrev S6144x32 : Shape := ⟨2, ![6144, 32]⟩
abbrev S24x2x4096 : Shape := ⟨3, ![24, 2, 4096]⟩
abbrev S6144x54 : Shape := ⟨2, ![6144, 54]⟩
abbrev S24x2x6912 : Shape := ⟨3, ![24, 2, 6912]⟩
abbrev S256x4096 : Shape := ⟨2, ![256, 4096]⟩
abbrev S256x3456 : Shape := ⟨2, ![256, 3456]⟩
abbrev S256x32 : Shape := ⟨2, ![256, 32]⟩
abbrev S1x2x4096 : Shape := ⟨3, ![1, 2, 4096]⟩
abbrev S256x6912 : Shape := ⟨2, ![256, 6912]⟩
abbrev S256x54 : Shape := ⟨2, ![256, 54]⟩
abbrev S1x2x6912 : Shape := ⟨3, ![1, 2, 6912]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S128x1 : Shape := ⟨2, ![128, 1]⟩
abbrev S128x32 : Shape := ⟨2, ![128, 32]⟩
abbrev S128x4096 : Shape := ⟨2, ![128, 4096]⟩
abbrev S1x4096 : Shape := ⟨2, ![1, 4096]⟩
abbrev S256x256 : Shape := ⟨2, ![256, 256]⟩
abbrev S256x128 : Shape := ⟨2, ![256, 128]⟩
abbrev S128x54 : Shape := ⟨2, ![128, 54]⟩

abbrev nBuf : Space → Nat
  | .hbm => 14
  | .vmem => 25
  | .smem => 0
  | _ => 0

abbrev bufTy : (tb : Table) → Fin (tcTables nBuf tb) → BufTy
  | .hbm, ⟨0, _⟩ => ⟨S6144x4096, .bf16⟩
  | .hbm, ⟨1, _⟩ => ⟨S6144x6912, .bf16⟩
  | .hbm, ⟨2, _⟩ => ⟨S3456x4096, .fp8e4m3⟩
  | .hbm, ⟨3, _⟩ => ⟨S27x32, .f32⟩
  | .hbm, ⟨4, _⟩ => ⟨S27x32x128, .f32⟩
  | .hbm, ⟨5, _⟩ => ⟨S27x4096, .f32⟩
  | .hbm, ⟨6, _⟩ => ⟨S6144x4096, .fp8e5m2⟩
  | .hbm, ⟨7, _⟩ => ⟨S6144x32, .f32⟩
  | .hbm, ⟨8, _⟩ => ⟨S6144x4096, .fp8e5m2⟩
  | .hbm, ⟨9, _⟩ => ⟨S24x2x4096, .f32⟩
  | .hbm, ⟨10, _⟩ => ⟨S6144x6912, .fp8e5m2⟩
  | .hbm, ⟨11, _⟩ => ⟨S6144x54, .f32⟩
  | .hbm, ⟨12, _⟩ => ⟨S6144x6912, .fp8e5m2⟩
  | .hbm, ⟨13, _⟩ => ⟨S24x2x6912, .f32⟩
  | .local _ .vmem, ⟨0, _⟩ => ⟨S256x4096, .bf16⟩
  | .local _ .vmem, ⟨1, _⟩ => ⟨S256x4096, .bf16⟩
  | .local _ .vmem, ⟨2, _⟩ => ⟨S256x3456, .bf16⟩
  | .local _ .vmem, ⟨3, _⟩ => ⟨S256x3456, .bf16⟩
  | .local _ .vmem, ⟨4, _⟩ => ⟨S256x3456, .bf16⟩
  | .local _ .vmem, ⟨5, _⟩ => ⟨S256x3456, .bf16⟩
  | .local _ .vmem, ⟨6, _⟩ => ⟨S3456x4096, .fp8e4m3⟩
  | .local _ .vmem, ⟨7, _⟩ => ⟨S27x4096, .f32⟩
  | .local _ .vmem, ⟨8, _⟩ => ⟨S256x4096, .fp8e5m2⟩
  | .local _ .vmem, ⟨9, _⟩ => ⟨S256x4096, .fp8e5m2⟩
  | .local _ .vmem, ⟨10, _⟩ => ⟨S256x32, .f32⟩
  | .local _ .vmem, ⟨11, _⟩ => ⟨S256x32, .f32⟩
  | .local _ .vmem, ⟨12, _⟩ => ⟨S256x4096, .fp8e5m2⟩
  | .local _ .vmem, ⟨13, _⟩ => ⟨S256x4096, .fp8e5m2⟩
  | .local _ .vmem, ⟨14, _⟩ => ⟨S1x2x4096, .f32⟩
  | .local _ .vmem, ⟨15, _⟩ => ⟨S1x2x4096, .f32⟩
  | .local _ .vmem, ⟨16, _⟩ => ⟨S256x6912, .fp8e5m2⟩
  | .local _ .vmem, ⟨17, _⟩ => ⟨S256x6912, .fp8e5m2⟩
  | .local _ .vmem, ⟨18, _⟩ => ⟨S256x54, .f32⟩
  | .local _ .vmem, ⟨19, _⟩ => ⟨S256x54, .f32⟩
  | .local _ .vmem, ⟨20, _⟩ => ⟨S256x6912, .fp8e5m2⟩
  | .local _ .vmem, ⟨21, _⟩ => ⟨S256x6912, .fp8e5m2⟩
  | .local _ .vmem, ⟨22, _⟩ => ⟨S1x2x6912, .f32⟩
  | .local _ .vmem, ⟨23, _⟩ => ⟨S1x2x6912, .f32⟩
  | .local _ .vmem, ⟨24, _⟩ => ⟨S256x4096, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3456x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S27x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x6912 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x54 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x6912 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x6912 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DhRefIdeal.lean ====
abbrev S6144x4096 : Shape := ⟨2, ![6144, 4096]⟩
abbrev S6144x6912 : Shape := ⟨2, ![6144, 6912]⟩
abbrev S3456x4096 : Shape := ⟨2, ![3456, 4096]⟩
abbrev S27x32 : Shape := ⟨2, ![27, 32]⟩
abbrev S6144x32 : Shape := ⟨2, ![6144, 32]⟩
abbrev S24x2x4096 : Shape := ⟨3, ![24, 2, 4096]⟩
abbrev S6144x54 : Shape := ⟨2, ![6144, 54]⟩
abbrev S24x2x6912 : Shape := ⟨3, ![24, 2, 6912]⟩
abbrev S6144x32x128 : Shape := ⟨3, ![6144, 32, 128]⟩
abbrev S6144x32x1 : Shape := ⟨3, ![6144, 32, 1]⟩
abbrev S48x128x4096 : Shape := ⟨3, ![48, 128, 4096]⟩
abbrev S48x4096 : Shape := ⟨2, ![48, 4096]⟩
abbrev S48x1x4096 : Shape := ⟨3, ![48, 1, 4096]⟩
abbrev S27x128x32x128 : Shape := ⟨4, ![27, 128, 32, 128]⟩
abbrev S27x1x32x1 : Shape := ⟨4, ![27, 1, 32, 1]⟩
abbrev S6144x3456 : Shape := ⟨2, ![6144, 3456]⟩
abbrev S6144x54x128 : Shape := ⟨3, ![6144, 54, 128]⟩
abbrev S6144x54x1 : Shape := ⟨3, ![6144, 54, 1]⟩
abbrev S48x128x6912 : Shape := ⟨3, ![48, 128, 6912]⟩
abbrev S48x6912 : Shape := ⟨2, ![48, 6912]⟩
abbrev S48x1x6912 : Shape := ⟨3, ![48, 1, 6912]⟩

abbrev nBuf : Space → Nat
  | .hbm => 12
  | .vmem => 12
  | .smem => 0
  | _ => 0

abbrev bufTy : (tb : Table) → Fin (tcTables nBuf tb) → BufTy
  | .hbm, ⟨0, _⟩ => ⟨S6144x4096, .bf16⟩
  | .hbm, ⟨1, _⟩ => ⟨S6144x6912, .bf16⟩
  | .hbm, ⟨2, _⟩ => ⟨S3456x4096, .fp8e4m3⟩
  | .hbm, ⟨3, _⟩ => ⟨S27x32, .f32⟩
  | .hbm, ⟨4, _⟩ => ⟨S6144x4096, .fp8e5m2⟩
  | .hbm, ⟨5, _⟩ => ⟨S6144x32, .f32⟩
  | .hbm, ⟨6, _⟩ => ⟨S6144x4096, .fp8e5m2⟩
  | .hbm, ⟨7, _⟩ => ⟨S24x2x4096, .f32⟩
  | .hbm, ⟨8, _⟩ => ⟨S6144x6912, .fp8e5m2⟩
  | .hbm, ⟨9, _⟩ => ⟨S6144x54, .f32⟩
  | .hbm, ⟨10, _⟩ => ⟨S6144x6912, .fp8e5m2⟩
  | .hbm, ⟨11, _⟩ => ⟨S24x2x6912, .f32⟩
  | .local _ .vmem, ⟨0, _⟩ => ⟨S6144x4096, .bf16⟩
  | .local _ .vmem, ⟨1, _⟩ => ⟨S6144x6912, .bf16⟩
  | .local _ .vmem, ⟨2, _⟩ => ⟨S3456x4096, .fp8e4m3⟩
  | .local _ .vmem, ⟨3, _⟩ => ⟨S27x32, .f32⟩
  | .local _ .vmem, ⟨4, _⟩ => ⟨S6144x4096, .fp8e5m2⟩
  | .local _ .vmem, ⟨5, _⟩ => ⟨S6144x32, .f32⟩
  | .local _ .vmem, ⟨6, _⟩ => ⟨S6144x4096, .fp8e5m2⟩
  | .local _ .vmem, ⟨7, _⟩ => ⟨S24x2x4096, .f32⟩
  | .local _ .vmem, ⟨8, _⟩ => ⟨S6144x6912, .fp8e5m2⟩
  | .local _ .vmem, ⟨9, _⟩ => ⟨S6144x54, .f32⟩
  | .local _ .vmem, ⟨10, _⟩ => ⟨S6144x6912, .fp8e5m2⟩
  | .local _ .vmem, ⟨11, _⟩ => ⟨S24x2x6912, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x4096 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x2x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x6912 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x54 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x6912 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x2x6912 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scaled.lean ====
/-
  Hand-written. The value of ONE BLOCK of a product of two block-scaled arrays, as the kernels that contract over rows compute it.
  An array of 6144 rows comes as codes `x` of shape [6144, D] and scales `s` of shape [48, D]: the entry at (k, d) stands for
  `x (k, d) * s (k / 128, d)`. The kernel scales 128 rows at a time (`tile`), keeps the transposed tiles of the left operand side
  by side in a scratch array (`leftArr`), stacks the tiles of 256 columns of the right operand (`rightArr`) and multiplies.
-/
module

public import Idealize.ShloMosaic.Lib.Pipeline.ValueKit
public import Idealize.ShloMosaic.Lib.MatmulPlain
public import Idealize.ShloMosaic.Lib.ShapeFacts

@[expose] public section

set_option maxRecDepth 16384

noncomputable section

namespace Cert.Proof.Scaled

open Idealize.ShloMosaic

/-- A matrix shape. -/
abbrev M2 (a b : ℕ) : Shape := ⟨2, ![a, b]⟩

/-- A rectangle of `h × w` at `(r, c)` lies in an `a × b` matrix. -/
theorem inb2 {a b r c h w : ℕ} (hr : r + h ≤ a) (hc : c + w ≤ b) :
    ∀ x : Fin (M2 a b).rank, (![r, c] : Fin 2 → ℕ) x + (![h, w] : Fin 2 → ℕ) x ≤ (M2 a b).size x :=
  Fin.forall_fin_two.2 ⟨hr, hc⟩

/-- One row broadcasts over any number of rows. -/
theorem row_broadcasts (a b : ℕ) : (M2 1 b).Broadcasts (M2 a b) :=
  ⟨Nat.le_refl 2, fun x => by fin_cases x <;> first | exact .inl rfl | exact .inr fun _ => rfl⟩

/-- `N` blocks of `h` rows stack to a matrix of `N * h` rows. -/
theorem stack_concatenates {α : Type} {N h w T : ℕ} (hN : 2 ≤ N) (hT : N * h = T) (f : Fin N → ((M2 h w).Idx → α)) :
    Shape.Concatenates ((List.ofFn fun n : Fin N => (⟨M2 h w, f n⟩ : (s : Shape) × (s.Idx → α))).map (·.1)) (M2 T w) 0 := by
  have e : (List.ofFn fun n : Fin N => (⟨M2 h w, f n⟩ : (s : Shape) × (s.Idx → α))).map (·.1) = List.replicate N (M2 h w) := by
    rw [List.map_ofFn]; exact List.ofFn_const N (M2 h w)
  rw [e]
  refine ⟨by rw [List.length_replicate]; exact hN, fun s hs => ?_, ?_⟩
  · rw [List.eq_of_mem_replicate hs]
    exact ⟨rfl, fun b hb => by fin_cases b; exact absurd rfl hb; rfl⟩
  · rw [List.map_replicate, List.sum_replicate]
    simpa using hT

section Any
variable {F : FTy → Type} [FloatOps F]
variable {φ ψ : FTy}

/-- Columns `off … off + w` of rows `128 b … 128 b + 128` of the codes, each multiplied by its column's scale of row block `b`. -/
def tile (D w off : ℕ) (hoff : off + w ≤ D) (hφ : φ.bits < FTy.bits .bf16) (hb : FTy.bits .bf16 < FTy.bits .f32)
    (x : (M2 6144 D).Idx → F φ) (s : (M2 48 D).Idx → F .f32) (b : Fin 48) : FVec F (M2 128 w) .bf16 :=
  mulf (extf .bf16 (fun y => x ((Rect.unit (s := M2 6144 D) ![128 * b.val, off] ![128, w] (inb2 (by omega) hoff)).idx y)) hφ)
    (broadcastTo (M2 128 w)
      (truncf .bf16 (fun y => s ((Rect.unit (s := M2 48 D) ![b.val, off] ![1, w] (inb2 (by omega) hoff)).idx y)) hb)
      (row_broadcasts 128 w))

/-- The transposed tiles of the left operand, stored side by side: the last one stored comes first in the list. -/
def leftPieces (D : ℕ) (hφ : φ.bits < FTy.bits .bf16) (hb : FTy.bits .bf16 < FTy.bits .f32)
    (x : (M2 6144 D).Idx → F φ) (s : (M2 48 D).Idx → F .f32) : List (View.Piece (Elt F) (M2 D 6144) .bf16) :=
  List.ofFn fun k : Fin 48 =>
    ⟨Rect.unit ![0, 128 * (47 - k.val)] ![D, 128] (inb2 (by omega) (by omega)),
      shapeCast (M2 D 128) (transpose (M2 D 128) [1, 0] (tile D D 0 (by omega) hφ hb x s ⟨47 - k.val, by omega⟩)
        (Shape.transposes_10 128 D)) rfl⟩

/-- The scratch array that holds the left operand, scaled and transposed. -/
def leftArr (D : ℕ) (hφ : φ.bits < FTy.bits .bf16) (hb : FTy.bits .bf16 < FTy.bits .f32)
    (x : (M2 6144 D).Idx → F φ) (s : (M2 48 D).Idx → F .f32) : FVec F (M2 D 6144) .bf16 :=
  fun j => View.canon (leftPieces D hφ hb x s)
    ((Rect.unit (s := M2 D 6144) ![0, 0] ![D, 6144] (inb2 (by omega) (by omega))).toLoadRect.idx j)

/-- 256 columns of the right operand, scaled: its 48 tiles stacked. -/
def rightArr (E off : ℕ) (hoff : off + 256 ≤ E) (hψ : ψ.bits < FTy.bits .bf16) (hb : FTy.bits .bf16 < FTy.bits .f32)
    (x : (M2 6144 E).Idx → F ψ) (s : (M2 48 E).Idx → F .f32) : FVec F (M2 6144 256) .bf16 :=
  concatenate (M2 6144 256) 0 (List.ofFn fun k : Fin 48 => ⟨M2 128 256, tile E 256 off hoff hψ hb x s k⟩)
    (stack_concatenates (by decide) (by decide) _)

/-- 256 columns of the product: what one store writes. -/
def chunk (D E off : ℕ) (hoff : off + 256 ≤ E) (hφ : φ.bits < FTy.bits .bf16) (hψ : ψ.bits < FTy.bits .bf16)
    (hb : FTy.bits .bf16 < FTy.bits .f32)
    (x0 : (M2 6144 D).Idx → F φ) (s0 : (M2 48 D).Idx → F .f32) (x1 : (M2 6144 E).Idx → F ψ) (s1 : (M2 48 E).Idx → F .f32) :
    FVec F (M2 D 256) .bf16 :=
  truncf .bf16 (matmul (DotDims.plain D 6144 256) none (leftArr D hφ hb x0 s0) (rightArr E off hoff hψ hb x1 s1)
    (constant (M2 D 256) .f32 0x00000000#32)) hb

/-- The product's block: its chunks of 256 columns, the last one stored first in the list. -/
def block (D N : ℕ) (hφ : φ.bits < FTy.bits .bf16) (hψ : ψ.bits < FTy.bits .bf16) (hb : FTy.bits .bf16 < FTy.bits .f32)
    (x0 : (M2 6144 D).Idx → F φ) (s0 : (M2 48 D).Idx → F .f32) (x1 : (M2 6144 (256 * N)).Idx → F ψ)
    (s1 : (M2 48 (256 * N)).Idx → F .f32) : (M2 D (256 * N)).Idx → F .bf16 :=
  View.canon (Val := Elt F) (e := .bf16) (List.ofFn fun k : Fin N =>
    ⟨Rect.unit ![0, 256 * (N - 1 - k.val)] ![D, 256] (inb2 (by omega) (by omega)),
      chunk D (256 * N) (256 * (N - 1 - k.val)) (by omega) hφ hψ hb x0 s0 x1 s1⟩)

end Any

end Cert.Proof.Scaled

end
-- ==== Proof.ScaledValue.lean ====
/-
  Hand-written. Over the extended reals, the block that Scaled.lean describes is the product of the two scaled arrays: at (a, c)
  the sum over the 6144 rows k of  x0 (k, a) * s0 (k / 128, a) * (x1 (k, c) * s1 (k / 128, c)).
-/
module

public import proofs.«01_k».proof.Proof.Scaled
public import Idealize.ShloMosaic.Lib.ValueIdx

@[expose] public section

set_option maxRecDepth 16384

noncomputable section

namespace Cert.Proof.Scaled

open Idealize.ShloMosaic hiding ix2 eq_ix2 mulf_apply extf_apply truncf_apply
open Idealize.ShloMosaic.ValueIdx

variable {φ ψ : FTy}

/-- The block of 128 rows that row `k` is in. -/
def rowBlock (k : Fin 6144) : Fin 48 := ⟨k.val / 128, by omega⟩

/-- The product of two block-scaled arrays at (a, c). -/
def prodAt {D E : ℕ} (x0 : (M2 6144 D).Idx → Ideal φ) (s0 : (M2 48 D).Idx → Ideal .f32) (x1 : (M2 6144 E).Idx → Ideal ψ)
    (s1 : (M2 48 E).Idx → Ideal .f32) (a : Fin D) (c : Fin E) : EReal :=
  ∑ k : Fin 6144, (x0 (ix2 k a) * s0 (ix2 (rowBlock k) a)) * (x1 (ix2 k c) * s1 (ix2 (rowBlock k) c))

/-- Two products agree where the operands' entries that they read do. -/
theorem prodAt_congr {D E D' E' : ℕ} {x0 : (M2 6144 D).Idx → Ideal φ} {s0 : (M2 48 D).Idx → Ideal .f32}
    {x1 : (M2 6144 E).Idx → Ideal ψ} {s1 : (M2 48 E).Idx → Ideal .f32}
    {x0' : (M2 6144 D').Idx → Ideal φ} {s0' : (M2 48 D').Idx → Ideal .f32}
    {x1' : (M2 6144 E').Idx → Ideal ψ} {s1' : (M2 48 E').Idx → Ideal .f32} {a : Fin D} {c : Fin E} {a' : Fin D'} {c' : Fin E'}
    (h0 : ∀ k, x0 (ix2 k a) = x0' (ix2 k a')) (g0 : ∀ b, s0 (ix2 b a) = s0' (ix2 b a'))
    (h1 : ∀ k, x1 (ix2 k c) = x1' (ix2 k c')) (g1 : ∀ b, s1 (ix2 b c) = s1' (ix2 b c')) :
    prodAt x0 s0 x1 s1 a c = prodAt x0' s0' x1' s1' a' c' :=
  Finset.sum_congr rfl fun k _ => by rw [h0, g0, h1, g1]

/-- A tile at (p, q): row `128 b + p` and column `off + q` of the codes, times that column's scale of block `b`. -/
theorem tile_apply (D w off : ℕ) (hoff : off + w ≤ D) (hφ : φ.bits < FTy.bits .bf16) (hb : FTy.bits .bf16 < FTy.bits .f32)
    (x : (M2 6144 D).Idx → Ideal φ) (s : (M2 48 D).Idx → Ideal .f32) (b : Fin 48) (p : Fin 128) (q : Fin w)
    (k : Fin 6144) (hk : k.val = 128 * b.val + p.val) (d : Fin D) (hd : d.val = off + q.val) :
    tile D w off hoff hφ hb x s b (ix2 p q) = x (ix2 k d) * s (ix2 b d) := by
  unfold tile
  rw [mulf_apply, extf_apply]
  congr 1
  · refine congrArg x (funext fun a => Fin.ext ?_)
    rw [Rect.idx_unit_val]
    fin_cases a
    · exact hk.symm
    · exact hd.symm
  · rw [broadcastTo_apply _ _ (ix2 p q) (ix2 0 q) (fun a => by
      fin_cases a
      · rfl
      · show q.val = if w = 1 then 0 else q.val
        split
        · omega
        · rfl), truncf_apply]
    refine congrArg s (funext fun a => Fin.ext ?_)
    rw [Rect.idx_unit_val]
    fin_cases a
    · rfl
    · exact hd.symm

/-- The scaled and transposed left operand at (a, k). -/
theorem leftArr_apply (D : ℕ) (hφ : φ.bits < FTy.bits .bf16) (hb : FTy.bits .bf16 < FTy.bits .f32)
    (x : (M2 6144 D).Idx → Ideal φ) (s : (M2 48 D).Idx → Ideal .f32) (a : Fin D) (k : Fin 6144) :
    leftArr D hφ hb x s (ix2 a k) = x (ix2 k a) * s (ix2 (rowBlock k) a) := by
  have hi : (Rect.unit (s := M2 D 6144) ![0, 0] ![D, 6144] (inb2 (by omega) (by omega))).toLoadRect.idx (ix2 a k) = ix2 a k := by
    funext c; apply Fin.ext; fin_cases c
    · show 0 + 1 * a.val = a.val; omega
    · show 0 + 1 * k.val = k.val; omega
  unfold leftArr leftPieces
  rw [hi]
  refine View.canon_ofFn_unit_eq_of_forall (S := M2 D 6144) _ ![D, 128] _ _ _ _ ?_ ?_
  · refine ⟨⟨47 - k.val / 128, by omega⟩, Fin.forall_fin_two.2 ⟨⟨Nat.zero_le _, ?_⟩, ?_, ?_⟩⟩
    · show a.val < 0 + D; omega
    · show 128 * (47 - (47 - k.val / 128)) ≤ k.val; omega
    · show k.val < 128 * (47 - (47 - k.val / 128)) + 128; omega
  · intro n y hy
    have h0 : a.val = 0 + (y 0).val := hy 0
    have h1 : k.val = 128 * (47 - n.val) + (y 1).val := hy 1
    have hy1 : (y 1).val < 128 := (y 1).isLt
    have hblk : (⟨47 - n.val, by omega⟩ : Fin 48) = rowBlock k := Fin.ext (by show 47 - n.val = k.val / 128; omega)
    rw [shapeCast_self]
    refine (transpose_apply (s := M2 128 D) (t := M2 D 128) [1, 0] _ _ y (ix2 (y 1) (y 0)) (fun b => by fin_cases b <;> rfl)).trans ?_
    rw [tile_apply D D 0 _ hφ hb x s _ (y 1) (y 0) k h1 a h0, hblk]

/-- The scaled columns of the right operand at (k, q). -/
theorem rightArr_apply (E off : ℕ) (hoff : off + 256 ≤ E) (hψ : ψ.bits < FTy.bits .bf16) (hb : FTy.bits .bf16 < FTy.bits .f32)
    (x : (M2 6144 E).Idx → Ideal ψ) (s : (M2 48 E).Idx → Ideal .f32) (k : Fin 6144) (q : Fin 256)
    (c : Fin E) (hc : c.val = off + q.val) :
    rightArr E off hoff hψ hb x s (ix2 k q) = x (ix2 k c) * s (ix2 (rowBlock k) c) := by
  unfold rightArr
  have hm : k.val % 128 < 128 := Nat.mod_lt _ (by decide)
  rw [concatenate_ofFn_apply (t := M2 6144 256) 0 (fun b : Fin 48 => tile E 256 off hoff hψ hb x s b) _ rfl 128 rfl (ix2 k q)
    (rowBlock k) rfl (ix2 ⟨k.val % 128, hm⟩ q) rfl (fun b hb' => by
      fin_cases b
      · exact absurd rfl hb'
      · rfl)]
  exact tile_apply E 256 off hoff hψ hb x s (rowBlock k) _ q k (by
    show k.val = 128 * (k.val / 128) + k.val % 128; omega) c hc

/-- The stored chunk of 256 columns at (a, q). -/
theorem chunk_apply (D E off : ℕ) (hoff : off + 256 ≤ E) (hφ : φ.bits < FTy.bits .bf16) (hψ : ψ.bits < FTy.bits .bf16)
    (hb : FTy.bits .bf16 < FTy.bits .f32)
    (x0 : (M2 6144 D).Idx → Ideal φ) (s0 : (M2 48 D).Idx → Ideal .f32) (x1 : (M2 6144 E).Idx → Ideal ψ)
    (s1 : (M2 48 E).Idx → Ideal .f32) (a : Fin D) (q : Fin 256) (c : Fin E) (hc : c.val = off + q.val) :
    chunk D E off hoff hφ hψ hb x0 s0 x1 s1 (ix2 a q) = prodAt x0 s0 x1 s1 a c := by
  unfold chunk prodAt
  rw [truncf_apply]
  show FloatOps.matmul (DotDims.plain D 6144 256) none (leftArr D hφ hb x0 s0) (rightArr E off hoff hψ hb x1 s1)
    (constant (M2 D 256) .f32 0x00000000#32) (ix2 a q) = _
  rw [Ideal.matmul_plain_apply]
  show Ideal.ofBits .f32 0x00000000#32 + _ = _
  rw [Ideal.ofBits_zero_f32, zero_add]
  exact Finset.sum_congr rfl fun k _ => by rw [leftArr_apply, rightArr_apply E off hoff hψ hb x1 s1 k q c hc]

/-- The block at an index: the product of the two scaled arrays. -/
theorem block_apply (D N : ℕ) (hφ : φ.bits < FTy.bits .bf16) (hψ : ψ.bits < FTy.bits .bf16) (hb : FTy.bits .bf16 < FTy.bits .f32)
    (x0 : (M2 6144 D).Idx → Ideal φ) (s0 : (M2 48 D).Idx → Ideal .f32) (x1 : (M2 6144 (256 * N)).Idx → Ideal ψ)
    (s1 : (M2 48 (256 * N)).Idx → Ideal .f32) (a : Fin D) (c : Fin (256 * N)) :
    block D N hφ hψ hb x0 s0 x1 s1 (ix2 a c) = prodAt x0 s0 x1 s1 a c := by
  unfold block
  refine View.canon_ofFn_unit_eq_of_forall (S := M2 D (256 * N)) _ ![D, 256] _ _ _ _ ?_ ?_
  · have hc := c.isLt
    refine ⟨⟨N - 1 - c.val / 256, by omega⟩, Fin.forall_fin_two.2 ⟨⟨Nat.zero_le _, ?_⟩, ?_, ?_⟩⟩
    · show a.val < 0 + D; omega
    · show 256 * (N - 1 - (N - 1 - c.val / 256)) ≤ c.val; omega
    · show c.val < 256 * (N - 1 - (N - 1 - c.val / 256)) + 256; omega
  · intro n y hy
    have h0 : a.val = 0 + (y 0).val := hy 0
    have h1 : c.val = 256 * (N - 1 - n.val) + (y 1).val := hy 1
    refine (congrArg _ (eq_ix2 (n0 := D) (n1 := 256) y)).trans ?_
    refine (chunk_apply D (256 * N) _ _ hφ hψ hb x0 s0 x1 s1 (y 0) (y 1) c h1).trans ?_
    exact congrArg (fun a => prodAt x0 s0 x1 s1 a c) (Fin.ext (by omega))

end Cert.Proof.Scaled

end
-- ==== Proof.DxBlock.lean ====
/-
  Hand-written. The value of ONE BLOCK of dX, as the kernel computes it. The left operand is 512 rows of codes `x` with one scale
  per row and 128 columns (`s`); the right operand is 2048 rows of weight codes `w` with one scale per 128 rows and column (`ws`).
  The kernel scales the left operand 128 × 128 entries at a time into a scratch array (`leftArr`), scales the right operand 128 rows
  at a time, stacks four such tiles (`rightArr`) and multiplies, contracting the columns of both.
  Over the extended reals the block at (a, c) is the sum over the 6912 columns k of
  x (a, k) * s (a, k / 128) * (w (c, k) * ws (c / 128, k)).
-/
module

public import proofs.«01_k».proof.Proof.ScaledValue

@[expose] public section

set_option maxRecDepth 16384

noncomputable section

namespace Cert.Proof.DxBlock

open Idealize.ShloMosaic hiding ix2 eq_ix2 mulf_apply extf_apply truncf_apply
open Idealize.ShloMosaic.ValueIdx
open Cert.Proof.Scaled (M2 inb2 row_broadcasts stack_concatenates)

/-- A shape of three axes whose first extent is 1. -/
abbrev S3 (a b : ℕ) : Shape := ⟨3, ![1, a, b]⟩

/-- A row of the only plane of a `1 × a × b` array is a rectangle of it. -/
theorem inb3 {a b r : ℕ} (hr : r + 1 ≤ a) :
    ∀ x : Fin (S3 a b).rank, (![0, r, 0] : Fin 3 → ℕ) x + (![1, 1, b] : Fin 3 → ℕ) x ≤ (S3 a b).size x :=
  fun x => by fin_cases x; exact Nat.le_refl 1; exact hr; exact (Nat.zero_add b).le

/-- An index of the only plane of a `1 × a × b` array. -/
def at3 {a b : ℕ} (i : Fin a) (j : Fin b) : (S3 a b).Idx := fun | ⟨0, _⟩ => (0 : Fin 1) | ⟨1, _⟩ => i | ⟨2, _⟩ => j

/-- One column broadcasts over any number of columns. -/
theorem col_broadcasts (a b : ℕ) : (M2 a 1).Broadcasts (M2 a b) :=
  ⟨Nat.le_refl 2, fun x => by fin_cases x <;> first | exact .inl rfl | exact .inr fun _ => rfl⟩

/-- Column `b` of an `n × 54` array is a slice of it. -/
theorem col_slices (n b : ℕ) (h : b < 54) : (M2 n 54).Slices ![0, b] (M2 n 1) :=
  ⟨rfl, fun x => by fin_cases x; exact (Nat.zero_add n).le; exact h⟩

section Any
variable {F : FTy → Type} [FloatOps F] {φ ψ : FTy}

/-- Rows `128 r …` and columns `128 b …` of the left operand, each row times its scale of column block `b`. -/
def leftTile (hφ : φ.bits < FTy.bits .bf16) (hb : FTy.bits .bf16 < FTy.bits .f32)
    (x : (M2 512 6912).Idx → F φ) (s : (M2 512 54).Idx → F .f32) (r : Fin 4) (b : Fin 54) : FVec F (M2 128 128) .bf16 :=
  mulf (extf .bf16 (fun y => x ((Rect.unit (s := M2 512 6912) ![128 * r.val, 128 * b.val] ![128, 128]
      (inb2 (by omega) (by omega))).idx y)) hφ)
    (broadcastTo (M2 128 128) (shapeCast (M2 128 1) (extractStridedSlice (M2 128 1) ![0, b.val]
      (truncf .bf16 (fun y => s ((Rect.unit (s := M2 512 54) ![128 * r.val, 0] ![128, 54] (inb2 (by omega) (by omega))).idx y)) hb)
      (col_slices 128 b.val b.isLt)) rfl) (col_broadcasts 128 128))

/-- The tiles of the left operand, in the order of the stores, the last one first. -/
def leftPieces (hφ : φ.bits < FTy.bits .bf16) (hb : FTy.bits .bf16 < FTy.bits .f32)
    (x : (M2 512 6912).Idx → F φ) (s : (M2 512 54).Idx → F .f32) : List (View.Piece (Elt F) (M2 512 6912) .bf16) :=
  List.ofFn fun k : Fin 216 =>
    ⟨Rect.unit ![128 * ((215 - k.val) / 54), 128 * ((215 - k.val) % 54)] ![128, 128] (inb2 (by omega) (by omega)),
      shapeCast (M2 128 128) (leftTile hφ hb x s ⟨(215 - k.val) / 54, by omega⟩ ⟨(215 - k.val) % 54, by omega⟩) rfl⟩

/-- The scratch array that holds the left operand, scaled. -/
def leftArr (hφ : φ.bits < FTy.bits .bf16) (hb : FTy.bits .bf16 < FTy.bits .f32)
    (x : (M2 512 6912).Idx → F φ) (s : (M2 512 54).Idx → F .f32) : FVec F (M2 512 6912) .bf16 :=
  fun j => View.canon (leftPieces hφ hb x s)
    ((Rect.unit (s := M2 512 6912) ![0, 0] ![512, 6912] (inb2 (by omega) (by omega))).toLoadRect.idx j)

/-- Rows `128 n … 128 n + 128` of the right operand, each entry times its column's scale of row block `n`. -/
def rightTile (hψ : ψ.bits < FTy.bits .bf16) (hb : FTy.bits .bf16 < FTy.bits .f32)
    (w : (M2 2048 6912).Idx → F ψ) (ws : (S3 16 6912).Idx → F .f32) (n : ℕ) (hn : n < 16) : FVec F (M2 128 6912) .bf16 :=
  mulf (extf .bf16 (fun y => w ((Rect.unit (s := M2 2048 6912) ![128 * n, 0] ![128, 6912] (inb2 (by omega) (by omega))).idx y)) hψ)
    (broadcastTo (M2 128 6912) (truncf .bf16 (shapeCast (M2 1 6912)
      (fun y => ws ((Rect.unit (s := S3 16 6912) ![0, n, 0] ![1, 1, 6912] (inb3 (by omega))).idx y) : (S3 1 6912).Idx → F .f32)
      rfl) hb) (row_broadcasts 128 6912))

/-- 512 rows of the right operand, scaled: four tiles stacked. -/
def rightArr (hψ : ψ.bits < FTy.bits .bf16) (hb : FTy.bits .bf16 < FTy.bits .f32)
    (w : (M2 2048 6912).Idx → F ψ) (ws : (S3 16 6912).Idx → F .f32) (c : ℕ) (hc : c < 4) : FVec F (M2 512 6912) .bf16 :=
  concatenate (M2 512 6912) 0 (List.ofFn fun k : Fin 4 => ⟨M2 128 6912, rightTile hψ hb w ws (4 * c + k.val) (by omega)⟩)
    (stack_concatenates (by decide) (by decide) _)

/-- 512 columns of the product: what one store writes. -/
def chunk (hφ : φ.bits < FTy.bits .bf16) (hψ : ψ.bits < FTy.bits .bf16) (hb : FTy.bits .bf16 < FTy.bits .f32)
    (x : (M2 512 6912).Idx → F φ) (s : (M2 512 54).Idx → F .f32)
    (w : (M2 2048 6912).Idx → F ψ) (ws : (S3 16 6912).Idx → F .f32) (c : ℕ) (hc : c < 4) : FVec F (M2 512 512) .bf16 :=
  truncf .bf16 (matmul (DotDims.transposedRhs 512 6912 512) none (leftArr hφ hb x s) (rightArr hψ hb w ws c hc)
    (constant (M2 512 512) .f32 0x00000000#32)) hb

/-- The product's block: its chunks of 512 columns, the last one stored first in the list. -/
def block (hφ : φ.bits < FTy.bits .bf16) (hψ : ψ.bits < FTy.bits .bf16) (hb : FTy.bits .bf16 < FTy.bits .f32)
    (x : (M2 512 6912).Idx → F φ) (s : (M2 512 54).Idx → F .f32)
    (w : (M2 2048 6912).Idx → F ψ) (ws : (S3 16 6912).Idx → F .f32) : (M2 512 2048).Idx → F .bf16 :=
  View.canon (Val := Elt F) (e := .bf16) (List.ofFn fun k : Fin 4 =>
    ⟨Rect.unit ![0, 512 * (3 - k.val)] ![512, 512] (inb2 (by omega) (by omega)),
      chunk hφ hψ hb x s w ws (3 - k.val) (by omega)⟩)

end Any

end Cert.Proof.DxBlock

end
-- ==== Proof.DxValue.lean ====
/-
  Hand-written. Over the extended reals, the block of dX that DxBlock.lean describes, read at an index.
-/
module

public import proofs.«01_k».proof.Proof.DxBlock

@[expose] public section

set_option maxRecDepth 16384

noncomputable section

namespace Cert.Proof.DxBlock

open Idealize.ShloMosaic hiding ix2 eq_ix2 mulf_apply extf_apply truncf_apply
open Idealize.ShloMosaic.ValueIdx
open Cert.Proof.Scaled (M2 inb2 row_broadcasts stack_concatenates)

variable {φ ψ : FTy}

/-- The block of 128 columns that column `k` is in. -/
def colBlock (k : Fin 6912) : Fin 54 := ⟨k.val / 128, by omega⟩

/-- A tile of the left operand at (p, q). -/
theorem leftTile_apply (hφ : φ.bits < FTy.bits .bf16) (hb : FTy.bits .bf16 < FTy.bits .f32)
    (x : (M2 512 6912).Idx → Ideal φ) (s : (M2 512 54).Idx → Ideal .f32) (r : Fin 4) (b : Fin 54) (p q : Fin 128)
    (a : Fin 512) (ha : a.val = 128 * r.val + p.val) (k : Fin 6912) (hk : k.val = 128 * b.val + q.val) :
    leftTile hφ hb x s r b (ix2 p q) = x (ix2 a k) * s (ix2 a b) := by
  unfold leftTile
  rw [mulf_apply, extf_apply]
  congr 1
  · refine congrArg x (funext fun c => Fin.ext ?_)
    rw [Rect.idx_unit_val]
    fin_cases c
    · exact ha.symm
    · exact hk.symm
  · rw [broadcastTo_apply _ _ (ix2 p q) (ix2 p (0 : Fin 1)) (fun c => by fin_cases c <;> rfl), shapeCast_self,
      extractStridedSlice_apply (s := M2 128 54) (t := M2 128 1) _ _ _ (ix2 p (0 : Fin 1)) (ix2 p b) (fun c => by
        fin_cases c
        · exact (Nat.zero_add _).symm
        · rfl), truncf_apply]
    refine congrArg s (funext fun c => Fin.ext ?_)
    rw [Rect.idx_unit_val]
    fin_cases c
    · exact ha.symm
    · exact Nat.zero_add _

/-- The scaled left operand at (a, k). -/
theorem leftArr_apply (hφ : φ.bits < FTy.bits .bf16) (hb : FTy.bits .bf16 < FTy.bits .f32)
    (x : (M2 512 6912).Idx → Ideal φ) (s : (M2 512 54).Idx → Ideal .f32) (a : Fin 512) (k : Fin 6912) :
    leftArr hφ hb x s (ix2 a k) = x (ix2 a k) * s (ix2 a (colBlock k)) := by
  have hi : (Rect.unit (s := M2 512 6912) ![0, 0] ![512, 6912] (inb2 (by omega) (by omega))).toLoadRect.idx (ix2 a k) = ix2 a k := by
    funext c; apply Fin.ext; fin_cases c
    · show 0 + 1 * a.val = a.val; omega
    · show 0 + 1 * k.val = k.val; omega
  unfold leftArr leftPieces
  rw [hi]
  refine View.canon_ofFn_unit_eq_of_forall (S := M2 512 6912) _ ![128, 128] _ _ _ _ ?_ ?_
  · have h1 : (215 - (215 - (54 * (a.val / 128) + k.val / 128))) / 54 = a.val / 128 := by omega
    have h2 : (215 - (215 - (54 * (a.val / 128) + k.val / 128))) % 54 = k.val / 128 := by omega
    refine ⟨⟨215 - (54 * (a.val / 128) + k.val / 128), by omega⟩, Fin.forall_fin_two.2 ⟨⟨?_, ?_⟩, ?_, ?_⟩⟩
    · show 128 * ((215 - (215 - (54 * (a.val / 128) + k.val / 128))) / 54) ≤ a.val; rw [h1]; omega
    · show a.val < 128 * ((215 - (215 - (54 * (a.val / 128) + k.val / 128))) / 54) + 128; rw [h1]; omega
    · show 128 * ((215 - (215 - (54 * (a.val / 128) + k.val / 128))) % 54) ≤ k.val; rw [h2]; omega
    · show k.val < 128 * ((215 - (215 - (54 * (a.val / 128) + k.val / 128))) % 54) + 128; rw [h2]; omega
  · intro n y hy
    have h0 : a.val = 128 * ((215 - n.val) / 54) + (y 0).val := hy 0
    have h1 : k.val = 128 * ((215 - n.val) % 54) + (y 1).val := hy 1
    have hy1 : (y 1).val < 128 := (y 1).isLt
    have hblk : (⟨(215 - n.val) % 54, by omega⟩ : Fin 54) = colBlock k :=
      Fin.ext (by show (215 - n.val) % 54 = k.val / 128; omega)
    rw [shapeCast_self]
    refine (congrArg _ (eq_ix2 (n0 := 128) (n1 := 128) y)).trans ?_
    refine (leftTile_apply hφ hb x s ⟨(215 - n.val) / 54, by omega⟩ ⟨(215 - n.val) % 54, by omega⟩ (y 0) (y 1) a h0 k h1).trans ?_
    rw [hblk]

/-- A tile of the right operand at (p, k). -/
theorem rightTile_apply (hψ : ψ.bits < FTy.bits .bf16) (hb : FTy.bits .bf16 < FTy.bits .f32)
    (w : (M2 2048 6912).Idx → Ideal ψ) (ws : (S3 16 6912).Idx → Ideal .f32) (n : ℕ) (hn : n < 16) (p : Fin 128) (k : Fin 6912)
    (c : Fin 2048) (hc : c.val = 128 * n + p.val) :
    rightTile hψ hb w ws n hn (ix2 p k) = w (ix2 c k) * ws (at3 ⟨n, hn⟩ k) := by
  unfold rightTile
  rw [mulf_apply, extf_apply]
  congr 1
  · refine congrArg w (funext fun a => Fin.ext ?_)
    rw [Rect.idx_unit_val]
    fin_cases a
    · exact hc.symm
    · exact Nat.zero_add _
  · rw [broadcastTo_apply _ _ (ix2 p k) (ix2 (0 : Fin 1) k) (fun a => by fin_cases a <;> rfl), truncf_apply]
    refine (shapeCast_apply (s := S3 1 6912) (t := M2 1 6912) _ _ (ix2 (0 : Fin 1) k) (at3 (0 : Fin 1) k) (by
      rw [Shape.rowMajor_val_three, Shape.rowMajor_val_two]; rfl)).trans ?_
    refine congrArg ws (funext fun a => Fin.ext ?_)
    rw [Rect.idx_unit_val]
    fin_cases a
    · rfl
    · rfl
    · exact Nat.zero_add _

/-- The scaled rows of the right operand at (q, k). -/
theorem rightArr_apply (hψ : ψ.bits < FTy.bits .bf16) (hb : FTy.bits .bf16 < FTy.bits .f32)
    (w : (M2 2048 6912).Idx → Ideal ψ) (ws : (S3 16 6912).Idx → Ideal .f32) (n : ℕ) (hn : n < 4) (q : Fin 512) (k : Fin 6912)
    (c : Fin 2048) (hc : c.val = 512 * n + q.val) :
    rightArr hψ hb w ws n hn (ix2 q k) = w (ix2 c k) * ws (at3 ⟨c.val / 128, by omega⟩ k) := by
  unfold rightArr
  have hm : q.val % 128 < 128 := Nat.mod_lt _ (by decide)
  have hd : q.val / 128 < 4 := by omega
  rw [concatenate_ofFn_apply (t := M2 512 6912) 0 (fun b : Fin 4 => rightTile hψ hb w ws (4 * n + b.val) (by omega)) _ rfl 128 rfl
    (ix2 q k) ⟨q.val / 128, hd⟩ rfl (ix2 ⟨q.val % 128, hm⟩ k) rfl (fun b hb' => by
      fin_cases b
      · exact absurd rfl hb'
      · rfl)]
  rw [rightTile_apply hψ hb w ws _ _ _ k c (by show c.val = 128 * (4 * n + q.val / 128) + q.val % 128; omega)]
  congr 3
  exact Fin.ext (by show 4 * n + q.val / 128 = c.val / 128; omega)

/-- The product at (a, c), of a left operand with `A` rows and a right operand with `B` rows, given the scale of
    each entry of the right operand. -/
def prodAt {A B : ℕ} (x : (M2 A 6912).Idx → Ideal φ) (s : (M2 A 54).Idx → Ideal .f32)
    (w : (M2 B 6912).Idx → Ideal ψ) (ws : Fin B → Fin 6912 → Ideal .f32) (a : Fin A) (c : Fin B) : EReal :=
  ∑ k : Fin 6912, (x (ix2 a k) * s (ix2 a (colBlock k))) * (w (ix2 c k) * ws c k)

/-- Two products agree where the operands' entries that they read do. -/
theorem prodAt_congr {A B A' B' : ℕ} {x : (M2 A 6912).Idx → Ideal φ} {s : (M2 A 54).Idx → Ideal .f32}
    {w : (M2 B 6912).Idx → Ideal ψ} {ws : Fin B → Fin 6912 → Ideal .f32}
    {x' : (M2 A' 6912).Idx → Ideal φ} {s' : (M2 A' 54).Idx → Ideal .f32}
    {w' : (M2 B' 6912).Idx → Ideal ψ} {ws' : Fin B' → Fin 6912 → Ideal .f32} {a : Fin A} {c : Fin B} {a' : Fin A'} {c' : Fin B'}
    (hx : ∀ k, x (ix2 a k) = x' (ix2 a' k)) (hs : ∀ b, s (ix2 a b) = s' (ix2 a' b))
    (hw : ∀ k, w (ix2 c k) = w' (ix2 c' k)) (hws : ∀ k, ws c k = ws' c' k) :
    prodAt x s w ws a c = prodAt x' s' w' ws' a' c' :=
  Finset.sum_congr rfl fun k _ => by rw [hx, hs, hw, hws]

/-- The scale of an entry of the 2048 rows of the right operand. -/
def planeScale (ws : (S3 16 6912).Idx → Ideal .f32) (c : Fin 2048) (k : Fin 6912) : Ideal .f32 :=
  ws (at3 ⟨c.val / 128, by omega⟩ k)

/-- The stored chunk of 512 columns at (a, q). -/
theorem chunk_apply (hφ : φ.bits < FTy.bits .bf16) (hψ : ψ.bits < FTy.bits .bf16) (hb : FTy.bits .bf16 < FTy.bits .f32)
    (x : (M2 512 6912).Idx → Ideal φ) (s : (M2 512 54).Idx → Ideal .f32)
    (w : (M2 2048 6912).Idx → Ideal ψ) (ws : (S3 16 6912).Idx → Ideal .f32) (n : ℕ) (hn : n < 4) (a q : Fin 512)
    (c : Fin 2048) (hc : c.val = 512 * n + q.val) :
    chunk hφ hψ hb x s w ws n hn (ix2 a q) = prodAt x s w (planeScale ws) a c := by
  unfold chunk prodAt
  rw [truncf_apply]
  show FloatOps.matmul (DotDims.transposedRhs 512 6912 512) none (leftArr hφ hb x s) (rightArr hψ hb w ws n hn)
    (constant (M2 512 512) .f32 0x00000000#32) (ix2 a q) = _
  rw [Ideal.matmul_transposedRhs_apply]
  show Ideal.ofBits .f32 0x00000000#32 + _ = _
  rw [Ideal.ofBits_zero_f32, zero_add]
  exact Finset.sum_congr rfl fun k _ => by rw [leftArr_apply, rightArr_apply hψ hb w ws n hn q k c hc]; rfl

/-- The block at an index. -/
theorem block_apply (hφ : φ.bits < FTy.bits .bf16) (hψ : ψ.bits < FTy.bits .bf16) (hb : FTy.bits .bf16 < FTy.bits .f32)
    (x : (M2 512 6912).Idx → Ideal φ) (s : (M2 512 54).Idx → Ideal .f32)
    (w : (M2 2048 6912).Idx → Ideal ψ) (ws : (S3 16 6912).Idx → Ideal .f32) (a : Fin 512) (c : Fin 2048) :
    block hφ hψ hb x s w ws (ix2 a c) = prodAt x s w (planeScale ws) a c := by
  unfold block
  refine View.canon_ofFn_unit_eq_of_forall (S := M2 512 2048) _ ![512, 512] _ _ _ _ ?_ ?_
  · refine ⟨⟨3 - c.val / 512, by omega⟩, Fin.forall_fin_two.2 ⟨⟨Nat.zero_le _, ?_⟩, ?_, ?_⟩⟩
    · show a.val < 0 + 512; omega
    · show 512 * (3 - (3 - c.val / 512)) ≤ c.val; omega
    · show c.val < 512 * (3 - (3 - c.val / 512)) + 512; omega
  · intro n y hy
    have h0 : a.val = 0 + (y 0).val := hy 0
    have h1 : c.val = 512 * (3 - n.val) + (y 1).val := hy 1
    refine (congrArg _ (eq_ix2 (n0 := 512) (n1 := 512) y)).trans ?_
    refine (chunk_apply hφ hψ hb x s w ws _ _ (y 0) (y 1) c h1).trans ?_
    exact congrArg (fun a => prodAt x s w (planeScale ws) a c) (Fin.ext (by omega))

end Cert.Proof.DxBlock

end
-- ==== Proof.RowDot.lean ====
/-
  Hand-written. The reference's side of the products over rows: a block-scaled array written out as one array
  (`spread`: its rows grouped by 128, every group times its scales), and the product of two arrays contracted over their rows.
-/
module

public import proofs.«01_k».proof.Proof.ScaledValue

@[expose] public section

set_option maxRecDepth 16384

noncomputable section

namespace Cert.Proof.Scaled

open Idealize.ShloMosaic hiding ix2 eq_ix2 mulf_apply extf_apply truncf_apply
open Idealize.ShloMosaic.ValueIdx

/-- A shape of three axes. -/
abbrev M3 (a b c : ℕ) : Shape := ⟨3, ![a, b, c]⟩

/-- An index of a shape of three axes. -/
def at3 {a b c : ℕ} (i : Fin a) (j : Fin b) (k : Fin c) : (M3 a b c).Idx :=
  fun | ⟨0, _⟩ => i | ⟨1, _⟩ => j | ⟨2, _⟩ => k

/-- The dimension numbers of a product contracted over the rows of both operands. -/
def rowDot (K M N : ℕ) : DotDims (M2 K M) (M2 K N) (M2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contraction index of such a product is the row. -/
theorem rowDot_rank (K M N : ℕ) : (rowDot K M N).contr.rank = 1 := rfl
/-- It runs over the `K` rows. -/
theorem rowDot_size (K M N : ℕ) : (rowDot K M N).contr.size ⟨0, by rw [rowDot_rank]; exact Nat.one_pos⟩ = K := rfl

/-- The product over rows at (r, c): the accumulator plus the sum over the rows k of lhs (k, r) * rhs (k, c). -/
theorem rowDot_apply {K M N : ℕ} {φ₁ φ₂ : FTy} (prec : Option ContractPrecision)
    (lhs : FVec Ideal (M2 K M) φ₁) (rhs : FVec Ideal (M2 K N) φ₂) (acc : FVec Ideal (M2 M N) .f32) (r : Fin M) (c : Fin N) :
    FloatOps.matmul (rowDot K M N) prec lhs rhs acc (ix2 r c) = acc (ix2 r c) + ∑ k : Fin K, lhs (ix2 k r) * rhs (ix2 k c) := by
  rw [Ideal.matmul_apply, ← Equiv.sum_comp (contrEquiv1 _ K (rowDot_rank K M N) (rowDot_size K M N)).symm]
  refine congrArg (acc (ix2 r c) + ·) (Finset.sum_congr rfl fun k _ => ?_)
  have hk := contrEquiv1_symm_val _ K (rowDot_rank K M N) (rowDot_size K M N) k
  have el : (rowDot K M N).lhsIdx (ix2 r c) ((contrEquiv1 _ K (rowDot_rank K M N) (rowDot_size K M N)).symm k) = ix2 k r := by
    funext a; apply Fin.ext
    match a with
    | ⟨0, _⟩ => exact hk
    | ⟨1, _⟩ => rfl
  have er : (rowDot K M N).rhsIdx (ix2 r c) ((contrEquiv1 _ K (rowDot_rank K M N) (rowDot_size K M N)).symm k) = ix2 k c := by
    funext a; apply Fin.ext
    match a with
    | ⟨0, _⟩ => exact hk
    | ⟨1, _⟩ => rfl
  rw [el, er]

/-- Casts between [6144, D], [48, 128, D] and between [48, D], [48, 1, D] keep the number of elements. -/
theorem casts_group (D : ℕ) : (M2 6144 D).ShapeCasts (M3 48 128 D) := by
  simp [Shape.ShapeCasts, Shape.numel, Fin.prod_univ_succ, ← mul_assoc]

/-- The same, back. -/
theorem casts_ungroup (D : ℕ) : (M3 48 128 D).ShapeCasts (M2 6144 D) := (casts_group D).symm

/-- One scale row per group. -/
theorem casts_scale (D : ℕ) : (M2 48 D).ShapeCasts (M3 48 1 D) := by
  simp [Shape.ShapeCasts, Shape.numel, Fin.prod_univ_succ]

/-- A scale row broadcasts over its group. -/
theorem group_broadcasts (D : ℕ) : (M3 48 1 D).Broadcasts (M3 48 128 D) :=
  ⟨Nat.le_refl 3, fun x => by fin_cases x <;> first | exact .inl rfl | exact .inr fun _ => rfl⟩

section Any
variable {F : FTy → Type} [FloatOps F] {φ ψ : FTy}

/-- The block-scaled array written out, as the reference computes it. -/
def spread (D : ℕ) (hφ : φ.bits < FTy.bits .bf16) (hb : FTy.bits .bf16 < FTy.bits .f32)
    (x : FVec F (M2 6144 D) φ) (s : FVec F (M2 48 D) .f32) : FVec F (M2 6144 D) .bf16 :=
  shapeCast (M2 6144 D) (mulf (shapeCast (M3 48 128 D) (extf .bf16 x hφ) (casts_group D))
    (broadcastTo (M3 48 128 D) (shapeCast (M3 48 1 D) (truncf .bf16 s hb) (casts_scale D)) (group_broadcasts D))) (casts_ungroup D)

/-- The reference's product over rows. -/
def rowProd (D E : ℕ) (hφ : φ.bits < FTy.bits .bf16) (hψ : ψ.bits < FTy.bits .bf16) (hb : FTy.bits .bf16 < FTy.bits .f32)
    (x0 : FVec F (M2 6144 D) φ) (s0 : FVec F (M2 48 D) .f32) (x1 : FVec F (M2 6144 E) ψ) (s1 : FVec F (M2 48 E) .f32) :
    FVec F (M2 D E) .bf16 :=
  truncf .bf16 (matmul (rowDot 6144 D E) none (spread D hφ hb x0 s0) (spread E hψ hb x1 s1)
    (constant (M2 D E) .f32 0x00000000#32)) hb

end Any

variable {φ ψ : FTy}

/-- The written-out array at (k, d): the code times the scale of its row block. -/
theorem spread_apply (D : ℕ) (hφ : φ.bits < FTy.bits .bf16) (hb : FTy.bits .bf16 < FTy.bits .f32)
    (x : FVec Ideal (M2 6144 D) φ) (s : FVec Ideal (M2 48 D) .f32) (k : Fin 6144) (d : Fin D) :
    spread D hφ hb x s (ix2 k d) = x (ix2 k d) * s (ix2 (rowBlock k) d) := by
  have hm : k.val % 128 < 128 := Nat.mod_lt _ (by decide)
  have hrow : (k.val / 128 * 128 + k.val % 128) * D + d.val = k.val * D + d.val := by
    rw [show k.val / 128 * 128 + k.val % 128 = k.val by omega]
  unfold spread
  rw [shapeCast_apply _ _ (ix2 k d) (at3 (rowBlock k) ⟨k.val % 128, hm⟩ d) (by
      rw [Shape.rowMajor_val_three, Shape.rowMajor_val_two]; exact hrow), mulf_apply,
    shapeCast_apply _ _ (at3 (rowBlock k) ⟨k.val % 128, hm⟩ d) (ix2 k d) (by
      rw [Shape.rowMajor_val_three, Shape.rowMajor_val_two]; exact hrow.symm), extf_apply,
    broadcastTo_apply _ _ (at3 (rowBlock k) ⟨k.val % 128, hm⟩ d) (at3 (rowBlock k) (0 : Fin 1) d) (fun a => by
      fin_cases a
      · rfl
      · rfl
      · show d.val = if D = 1 then 0 else d.val
        split
        · omega
        · rfl),
    shapeCast_apply _ _ (at3 (rowBlock k) (0 : Fin 1) d) (ix2 (rowBlock k) d) (by
      rw [Shape.rowMajor_val_three, Shape.rowMajor_val_two]
      show (k.val / 128) * D + d.val = ((k.val / 128) * 1 + 0) * D + d.val
      rw [Nat.mul_one, Nat.add_zero]), truncf_apply]

/-- The reference's product at (a, c). -/
theorem rowProd_apply (D E : ℕ) (hφ : φ.bits < FTy.bits .bf16) (hψ : ψ.bits < FTy.bits .bf16)
    (hb : FTy.bits .bf16 < FTy.bits .f32) (x0 : FVec Ideal (M2 6144 D) φ) (s0 : FVec Ideal (M2 48 D) .f32)
    (x1 : FVec Ideal (M2 6144 E) ψ) (s1 : FVec Ideal (M2 48 E) .f32) (a : Fin D) (c : Fin E) :
    rowProd D E hφ hψ hb x0 s0 x1 s1 (ix2 a c) = prodAt x0 s0 x1 s1 a c := by
  unfold rowProd prodAt
  rw [truncf_apply]
  show FloatOps.matmul (rowDot 6144 D E) none (spread D hφ hb x0 s0) (spread E hψ hb x1 s1)
    (constant (M2 D E) .f32 0x00000000#32) (ix2 a c) = _
  rw [rowDot_apply]
  show Ideal.ofBits .f32 0x00000000#32 + _ = _
  rw [Ideal.ofBits_zero_f32, zero_add]
  exact Finset.sum_congr rfl fun k _ => by rw [spread_apply, spread_apply]

/-- The reference's product as one function of the index. -/
theorem rowProd_eq (D E : ℕ) (hφ : φ.bits < FTy.bits .bf16) (hψ : ψ.bits < FTy.bits .bf16)
    (hb : FTy.bits .bf16 < FTy.bits .f32) (x0 : FVec Ideal (M2 6144 D) φ) (s0 : FVec Ideal (M2 48 D) .f32)
    (x1 : FVec Ideal (M2 6144 E) ψ) (s1 : FVec Ideal (M2 48 E) .f32) :
    rowProd D E hφ hψ hb x0 s0 x1 s1 = fun y => prodAt x0 s0 x1 s1 (y 0) (y 1) :=
  funext fun y => (congrArg _ (eq_ix2 y)).trans (rowProd_apply D E hφ hψ hb x0 s0 x1 s1 (y 0) (y 1))

end Cert.Proof.Scaled

end
-- ==== Proof.DxKernel.lean ====
/-
  Hand-written. The kernel of dX (blocks of 512 x 2048, four chunks of 512 columns each): what the body writes at one grid point is
  the block that DxBlock.lean describes, and the result array after the run is the product of the two scaled arrays.
-/
module

public import proofs.«01_k».proof.Proof.Gen.DxIdeal.Value
public import proofs.«01_k».proof.Proof.DxValue
public import proofs.«01_k».proof.Proof.RowDot

@[expose] public section

set_option maxRecDepth 16384

noncomputable section

namespace Cert.Proof.DxKernel

open Idealize.ShloMosaic hiding ix2 eq_ix2
open Idealize.ShloMosaic.ValueIdx (ix2 eq_ix2)
open Idealize.ShloMosaic.TcCoe Idealize.SL.Sem Cert.DxIdeal Cert.DxIdeal.Gen

variable {F : FTy → Type} [FloatOps F]

/-- What the body leaves in the output block at one grid point, as a function of the four input blocks. -/
theorem out_eq (c : Dev nD) (i : grid0.Coords) (arg2 : Memref sig .tc .vmem S2048x6912 .fp8e4m3) (harg2 : arg2.IsWhole) (arg3 : Memref sig .tc .vmem S512x6912 .fp8e5m2) (harg3 : arg3.IsWhole) (arg4 : Memref sig .tc .vmem S512x54 .f32) (harg4 : arg4.IsWhole) (arg5 : Memref sig .tc .vmem S1x16x6912 .f32) (harg5 : arg5.IsWhole) (arg6 : Memref sig .tc .vmem S512x2048 .bf16) (harg6 : arg6.IsWhole) (arg7 : Memref sig .tc .vmem S512x6912 .bf16) (harg7 : arg7.IsWhole)
    (x0 : Vec F S2048x6912 .fp8e4m3) (x1 : Vec F S512x6912 .fp8e5m2) (x2 : Vec F S512x54 .f32) (x3 : Vec F S1x16x6912 .f32) :
    out0_A_4 c i arg2 harg2 arg3 harg3 arg4 harg4 arg5 harg5 arg6 harg6 arg7 harg7 x0 x1 x2 x3
      = DxBlock.block bitsLt_fp8e5m2_bf16 bitsLt_fp8e4m3_bf16 bitsLt_bf16_f32 x1 x2 x0 x3 := by
  frame_open
  simp (disch := decide) only [View.read_writes_junk_eq_canon, View.readAt_eq_ld, Memref.IsWhole.read_unread]
  simp only [View.readCov_eq_canon']
  sl_kernel_rfl

/-- The block indices of the five windows at a grid point. -/
theorem index_eq : ∀ t : Fin grid0.N,
    win0_0.index t = ![(grid0.coords t 0).val, 0] ∧ win0_1.index t = ![(grid0.coords t 1).val, 0] ∧
    win0_2.index t = ![(grid0.coords t 1).val, 0] ∧ win0_3.index t = ![(grid0.coords t 0).val, 0, 0] ∧
    win0_4.index t = ![(grid0.coords t 1).val, (grid0.coords t 0).val] := by decide +kernel

/-- The scales of the weights that the kernel stages: every scale repeated over its 128 columns, 16 rows of scales to a plane. -/
theorem V_scales (m : (ℓ : Loc nD τ sig) → Buf (Elt F) ℓ) (c : Dev nD) : V m c main_v2 =
    shapeCast S2x16x6912 (shapeCast S32x6912 (broadcastInDim S32x54x128 ![0, 1] bcast_S32x54_S32x54x128_0_1
      (m ((c : Thread nD τ).loc main_arg3) : Vec F S32x54 .f32)) shapeCasts_S32x54x128_S32x6912) shapeCasts_S32x6912_S2x16x6912 := by
  unfold_abbrev_sides
  after_results
  rfl

/-- A staged scale: plane `j`, row `n`, column `k` is the scale of row block `16 j + n` and of the block of columns that `k` is in. -/
theorem scales_apply (x : Vec Ideal S32x54 .f32) (j : Fin 2) (n : Fin 16) (k : Fin 6912) (b : Fin 32) (hb : b.val = 16 * j.val + n.val) :
    shapeCast S2x16x6912 (shapeCast S32x6912 (broadcastInDim S32x54x128 ![0, 1] bcast_S32x54_S32x54x128_0_1 x)
      shapeCasts_S32x54x128_S32x6912) shapeCasts_S32x6912_S2x16x6912 (Scaled.at3 j n k) = x (ix2 b (DxBlock.colBlock k)) := by
  have hm : k.val % 128 < 128 := Nat.mod_lt _ (by decide)
  refine (shapeCast_apply (s := S32x6912) (t := S2x16x6912) _ _ (Scaled.at3 j n k) (ix2 b k) (by
    rw [Shape.rowMajor_val_three, Shape.rowMajor_val_two]
    show b.val * 6912 + k.val = (j.val * 16 + n.val) * 6912 + k.val
    omega)).trans ?_
  refine (shapeCast_apply (s := S32x54x128) (t := S32x6912) _ _ (ix2 b k) (Scaled.at3 b (DxBlock.colBlock k) ⟨k.val % 128, hm⟩) (by
    rw [Shape.rowMajor_val_three, Shape.rowMajor_val_two]
    show (b.val * 54 + k.val / 128) * 128 + k.val % 128 = b.val * 6912 + k.val
    omega)).trans ?_
  exact broadcastInDim_apply _ _ _ _ (ix2 b (DxBlock.colBlock k)) (fun a => by fin_cases a <;> rfl)

/-- The result array after the run: the product of the two scaled arrays, at every index. -/
theorem final (m : (ℓ : Loc nD τ sig) → Buf (Elt Ideal) ℓ) (c : Dev nD) :
    (dats m 0 c).arrAt 4 cfg0.N = fun y => DxBlock.prodAt (φ := .fp8e5m2) (ψ := .fp8e4m3)
      (m ((c : Thread nD τ).loc main_arg0)) (m ((c : Thread nD τ).loc main_arg1)) (m ((c : Thread nD τ).loc main_arg2))
      (fun a k => (m ((c : Thread nD τ).loc main_arg3) : Vec Ideal S32x54 .f32) (ix2 (⟨a.val / 128, by omega⟩ : Fin 32) (DxBlock.colBlock k)))
      (y 0 : Fin 6144) (y 1 : Fin 4096) := by
  refine (dats m 0 c).arrAt_eq_of_covers 4 _ (by decide +kernel) fun t hf y => ?_
  blk_simp
  rw [after0_4]
  unfold outsAt0
  rw [out_eq]
  have h0 : ((win0_4.blk t).view.emb y 0).val = (grid0.coords t 1).val * 512 + (y 0).val := by blk_simp [index_eq t]
  have h1 : ((win0_4.blk t).view.emb y 1).val = (grid0.coords t 0).val * 2048 + (y 1).val := by blk_simp [index_eq t]
  refine (congrArg _ (eq_ix2 (n0 := 512) (n1 := 2048) y)).trans ((DxBlock.block_apply _ _ _ _ _ _ _ (y 0) (y 1)).trans ?_)
  refine DxBlock.prodAt_congr (fun k => ?_) (fun b => ?_) (fun k => ?_) (fun k => ?_)
  · blk_ext [iblk, index_eq t, V_main_arg0]
    exact h0.symm
  · blk_ext [iblk,  index_eq t, V_main_arg1]
    exact h0.symm
  · blk_ext [iblk, index_eq t, V_main_arg2]
    exact h1.symm
  · unfold DxBlock.planeScale
    have hj : (grid0.coords t 0).val < 2 := (grid0.coords t 0).isLt
    have hy : (y 1).val < 2048 := (y 1).isLt
    have hb : ((win0_4.blk t).view.emb y 1).val / 128 = 16 * (grid0.coords t 0).val + (y 1).val / 128 := by rw [h1]; omega
    have hsc := scales_apply (m ((c : Thread nD τ).loc main_arg3)) ⟨(grid0.coords t 0).val, hj⟩ ⟨(y 1).val / 128, by omega⟩ k
      ⟨((win0_4.blk t).view.emb y 1).val / 128, by omega⟩ hb
    refine Eq.trans ?_ hsc
    rw [← V_scales]
    blk_ext [iblk, index_eq t] <;> rfl

end Cert.Proof.DxKernel

end
-- ==== Proof.Dw1Kernel.lean ====
/-
  Hand-written. The kernel of dW1 (blocks of 1024 x 768, three chunks of 256 columns each): what the body writes at one grid point is
  the block that Scaled.lean describes, and the result array after the run is the product of the two scaled arrays.
-/
module

public import proofs.«01_k».proof.Proof.Gen.Dw1Ideal.Value
public import proofs.«01_k».proof.Proof.ScaledValue

@[expose] public section

set_option maxRecDepth 16384

noncomputable section

namespace Cert.Proof.Dw1Kernel

open Idealize.ShloMosaic hiding ix2 eq_ix2
open Idealize.ShloMosaic.ValueIdx (ix2 eq_ix2)
open Idealize.ShloMosaic.TcCoe Idealize.SL.Sem Cert.Dw1Ideal Cert.Dw1Ideal.Gen

variable {F : FTy → Type} [FloatOps F]

/-- What the body leaves in the output block at one grid point, as a function of the four input blocks. -/
theorem out_eq (c : Dev nD) (i : grid0.Coords) (arg2 : Memref sig .tc .vmem S6144x1024 .fp8e4m3) (harg2 : arg2.IsWhole) (arg3 : Memref sig .tc .vmem S48x1024 .f32) (harg3 : arg3.IsWhole) (arg4 : Memref sig .tc .vmem S6144x768 .fp8e5m2) (harg4 : arg4.IsWhole) (arg5 : Memref sig .tc .vmem S48x768 .f32) (harg5 : arg5.IsWhole) (arg6 : Memref sig .tc .vmem S1024x768 .bf16) (harg6 : arg6.IsWhole) (arg7 : Memref sig .tc .vmem S1024x6144 .bf16) (harg7 : arg7.IsWhole)
    (x0 : Vec F S6144x1024 .fp8e4m3) (x1 : Vec F S48x1024 .f32) (x2 : Vec F S6144x768 .fp8e5m2) (x3 : Vec F S48x768 .f32) :
    out0_A_4 c i arg2 harg2 arg3 harg3 arg4 harg4 arg5 harg5 arg6 harg6 arg7 harg7 x0 x1 x2 x3
      = Scaled.block 1024 3 bitsLt_fp8e4m3_bf16 bitsLt_fp8e5m2_bf16 bitsLt_bf16_f32 x0 x1 x2 x3 := by
  frame_open
  simp (disch := decide) only [View.read_writes_junk_eq_canon, View.readAt_eq_ld, Memref.IsWhole.read_unread]
  simp only [View.readCov_eq_canon']
  rw [harg4.read_unread x2, harg5.read_unread x3]
  sl_kernel_rfl

/-- The block indices of the five windows at a grid point. -/
theorem index_eq : ∀ t : Fin grid0.N,
    win0_0.index t = ![0, (grid0.coords t 0).val] ∧ win0_1.index t = ![0, (grid0.coords t 0).val] ∧
    win0_2.index t = ![0, (grid0.coords t 1).val] ∧ win0_3.index t = ![0, (grid0.coords t 1).val] ∧
    win0_4.index t = ![(grid0.coords t 0).val, (grid0.coords t 1).val] := by decide +kernel

/-- The result array after the run: the product of the two scaled arrays, at every index. -/
theorem final (m : (ℓ : Loc nD τ sig) → Buf (Elt Ideal) ℓ) (c : Dev nD) :
    (dats m 0 c).arrAt 4 cfg0.N = fun y => Scaled.prodAt (φ := .fp8e4m3) (ψ := .fp8e5m2)
      (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 4 _ (by decide +kernel) fun t hf y => ?_
  blk_simp
  rw [after0_4]
  unfold outsAt0
  rw [out_eq]
  have h0 : ((win0_4.blk t).view.emb y 0).val = (grid0.coords t 0).val * 1024 + (y 0).val := by blk_simp [index_eq t]
  have h1 : ((win0_4.blk t).view.emb y 1).val = (grid0.coords t 1).val * 768 + (y 1).val := by blk_simp [index_eq t]
  refine (congrArg _ (eq_ix2 (n0 := 1024) (n1 := 768) y)).trans ((Scaled.block_apply 1024 3 _ _ _ _ _ _ _ (y 0) (y 1)).trans ?_)
  refine Scaled.prodAt_congr (fun k => ?_) (fun b => ?_) (fun k => ?_) (fun b => ?_)
  · blk_ext [iblk, V, index_eq t]
    exact h0.symm
  · blk_ext [iblk, V, index_eq t]
    exact h0.symm
  · blk_ext [iblk, V, index_eq t]
    exact h1.symm
  · blk_ext [iblk, V, index_eq t]
    exact h1.symm

end Cert.Proof.Dw1Kernel

end
-- ==== Proof.Dw2Kernel.lean ====
/-
  Hand-written. The kernel of dW2 (blocks of 1152 x 512, two chunks of 256 columns each): what the body writes at one grid point is
  the block that Scaled.lean describes, and the result array after the run is the product of the two scaled arrays.
-/
module

public import proofs.«01_k».proof.Proof.Gen.Dw2Ideal.Value
public import proofs.«01_k».proof.Proof.ScaledValue

@[expose] public section

set_option maxRecDepth 16384

noncomputable section

namespace Cert.Proof.Dw2Kernel

open Idealize.ShloMosaic hiding ix2 eq_ix2
open Idealize.ShloMosaic.ValueIdx (ix2 eq_ix2)
open Idealize.ShloMosaic.TcCoe Idealize.SL.Sem Cert.Dw2Ideal Cert.Dw2Ideal.Gen

variable {F : FTy → Type} [FloatOps F]

/-- What the body leaves in the output block at one grid point, as a function of the four input blocks. -/
theorem out_eq (c : Dev nD) (i : grid0.Coords) (arg2 : Memref sig .tc .vmem S6144x1152 .fp8e4m3) (harg2 : arg2.IsWhole) (arg3 : Memref sig .tc .vmem S48x1152 .f32) (harg3 : arg3.IsWhole) (arg4 : Memref sig .tc .vmem S6144x512 .fp8e5m2) (harg4 : arg4.IsWhole) (arg5 : Memref sig .tc .vmem S48x512 .f32) (harg5 : arg5.IsWhole) (arg6 : Memref sig .tc .vmem S1152x512 .bf16) (harg6 : arg6.IsWhole) (arg7 : Memref sig .tc .vmem S1152x6144 .bf16) (harg7 : arg7.IsWhole)
    (x0 : Vec F S6144x1152 .fp8e4m3) (x1 : Vec F S48x1152 .f32) (x2 : Vec F S6144x512 .fp8e5m2) (x3 : Vec F S48x512 .f32) :
    out0_A_4 c i arg2 harg2 arg3 harg3 arg4 harg4 arg5 harg5 arg6 harg6 arg7 harg7 x0 x1 x2 x3
      = Scaled.block 1152 2 bitsLt_fp8e4m3_bf16 bitsLt_fp8e5m2_bf16 bitsLt_bf16_f32 x0 x1 x2 x3 := by
  frame_open
  simp (disch := decide) only [View.read_writes_junk_eq_canon, View.readAt_eq_ld, Memref.IsWhole.read_unread]
  simp only [View.readCov_eq_canon']
  sl_kernel_rfl

/-- The block indices of the five windows at a grid point. -/
theorem index_eq : ∀ t : Fin grid0.N,
    win0_0.index t = ![0, (grid0.coords t 0).val] ∧ win0_1.index t = ![0, (grid0.coords t 0).val] ∧
    win0_2.index t = ![0, (grid0.coords t 1).val] ∧ win0_3.index t = ![0, (grid0.coords t 1).val] ∧
    win0_4.index t = ![(grid0.coords t 0).val, (grid0.coords t 1).val] := by decide +kernel

/-- The result array after the run: the product of the two scaled arrays, at every index. -/
theorem final (m : (ℓ : Loc nD τ sig) → Buf (Elt Ideal) ℓ) (c : Dev nD) :
    (dats m 0 c).arrAt 4 cfg0.N = fun y => Scaled.prodAt (φ := .fp8e4m3) (ψ := .fp8e5m2)
      (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 4 _ (by decide +kernel) fun t hf y => ?_
  blk_simp
  rw [after0_4]
  unfold outsAt0
  rw [out_eq]
  have h0 : ((win0_4.blk t).view.emb y 0).val = (grid0.coords t 0).val * 1152 + (y 0).val := by blk_simp [index_eq t]
  have h1 : ((win0_4.blk t).view.emb y 1).val = (grid0.coords t 1).val * 512 + (y 1).val := by blk_simp [index_eq t]
  refine (congrArg _ (eq_ix2 (n0 := 1152) (n1 := 512) y)).trans ((Scaled.block_apply 1152 2 _ _ _ _ _ _ _ (y 0) (y 1)).trans ?_)
  refine Scaled.prodAt_congr (fun k => ?_) (fun b => ?_) (fun k => ?_) (fun b => ?_)
  · blk_ext [iblk, V, index_eq t]
    exact h0.symm
  · blk_ext [iblk, V, index_eq t]
    exact h0.symm
  · blk_ext [iblk, V, index_eq t]
    exact h1.symm
  · blk_ext [iblk, V, index_eq t]
    exact h1.symm

end Cert.Proof.Dw2Kernel

end
-- ==== Proof.DhSpec.lean ====
/-
  Hand-written. The quantiser that the gradient kernel and its reference share: a power-of-two scale from the greatest absolute
  value of 128 entries, and an entry's code under a scale. First as operations on vectors of any format instance, then over the
  extended reals as functions of natural-number coordinates (an array is read through `nat2`, so that blocks, row numbers and
  column numbers are plain arithmetic).
-/
module

public import proofs.«01_k».proof.Proof.RowDot

@[expose] public section

set_option maxRecDepth 16384

noncomputable section

namespace Cert.Proof.Dh

open Idealize.ShloMosaic hiding ix2 eq_ix2 mulf_apply extf_apply truncf_apply
open Idealize.ShloMosaic.ValueIdx
open Cert.Proof.Scaled (M2 inb2)

section Any
variable {F : FTy → Type} [FloatOps F] {s : Shape}

/-- The greatest absolute value as a multiple of the format's greatest number, 57344. -/
def ratio (a : FVec F s .f32) : FVec F s .f32 := mulf a (broadcast s (Scalar.ofBits .f32 0x37924925#32))

/-- The exponent of the scale: one more than the whole part of the ratio's base-2 logarithm. -/
def expo (a : FVec F s .f32) : FVec F s .f32 :=
  addf (floor (divf (log (ratio a)) (log (broadcast s (Scalar.ofBits .f32 0x40000000#32))))) (broadcast s (Scalar.ofBits .f32 0x3F800000#32))

/-- Where the scale is 1: the ratio is below the smallest normal number, or infinite. -/
def plain (a : FVec F s .f32) : IVec s 1 :=
  ori (cmpf .olt (ratio a) (broadcast s (Scalar.ofBits .f32 0x00800000#32))) (cmpf .oeq (ratio a) (broadcast s (Scalar.ofBits .f32 0x7F800000#32)))

/-- The scale, as the kernel chooses it. -/
def up (a : FVec F s .f32) : FVec F s .f32 := select (plain a) (broadcast s (Scalar.ofBits .f32 0x3F800000#32)) (exp2 (expo a))

/-- The scale's inverse, as the kernel chooses it. -/
def down (a : FVec F s .f32) : FVec F s .f32 :=
  select (plain a) (broadcast s (Scalar.ofBits .f32 0x3F800000#32)) (exp2 (subf (broadcast s (Scalar.ofBits .f32 0x00000000#32)) (expo a)))

/-- The exponent as the reference chooses it: 0 where the scale is 1. -/
def refExpo (a : FVec F s .f32) : FVec F s .f32 := select (plain a) (broadcast s (Scalar.ofBits .f32 0x00000000#32)) (expo a)

/-- The reference's scale. -/
def refUp (a : FVec F s .f32) : FVec F s .f32 := exp2 (refExpo a)

/-- The reference's inverse scale. -/
def refDown (a : FVec F s .f32) : FVec F s .f32 := exp2 (subf (broadcast s (Scalar.ofBits .f32 0x00000000#32)) (refExpo a))

/-- The codes of f32 entries `v` under the inverse scales `inv`. -/
def encode (v inv : FVec F s .f32) (h : FTy.bits .fp8e5m2 < FTy.bits .f32) : FVec F s .fp8e5m2 :=
  truncf .fp8e5m2 (minimumf (broadcast s (Scalar.ofBits .f32 0x47600000#32)) (maximumf (broadcast s (Scalar.ofBits .f32 0xC7600000#32)) (mulf v inv))) h

/-- The codes of bf16 entries `v` under the inverse scales `inv`. -/
def encodeHalf (v inv : FVec F s .bf16) (h : FTy.bits .fp8e5m2 < FTy.bits .bf16) : FVec F s .fp8e5m2 :=
  truncf .fp8e5m2 (minimumf (broadcast s (Scalar.ofBits .bf16 0x4760#16)) (maximumf (broadcast s (Scalar.ofBits .bf16 0xC760#16)) (mulf v inv))) h

end Any

/-! ### Over the extended reals -/

/-- The scale of 128 entries whose greatest absolute value is `a`. -/
def upS (a : EReal) : EReal := up (F := Ideal) (s := M2 1 1) (fun _ => a) (ix2 0 0)
/-- Its inverse. -/
def downS (a : EReal) : EReal := down (F := Ideal) (s := M2 1 1) (fun _ => a) (ix2 0 0)
/-- The code of `x` among entries whose greatest absolute value is `a`. -/
def codeS (x a : EReal) : EReal :=
  encode (F := Ideal) (s := M2 1 1) (fun _ => x) (fun _ => downS a) (by decide) (ix2 0 0)

theorem up_apply {s : Shape} (a : FVec Ideal s .f32) (i : s.Idx) : up a i = upS (a i) := rfl
theorem down_apply {s : Shape} (a : FVec Ideal s .f32) (i : s.Idx) : down a i = downS (a i) := rfl

theorem exp2_zero : Ideal.exp2 0 = 1 := by
  show ((Real.rpow 2 0 : ℝ) : EReal) = 1
  rw [show Real.rpow 2 0 = 1 from Real.rpow_zero 2]; rfl

theorem one_pattern : Ideal.ofBits .f32 0x3F800000#32 = 1 := by simp [Ideal.ofBits, Ideal.ieee, -EReal.coe_mul]; norm_num

/-- The two ways to choose the scale agree. -/
theorem refUp_apply {s : Shape} (a : FVec Ideal s .f32) (i : s.Idx) : refUp a i = upS (a i) := by
  show Ideal.exp2 (Scalar.select (plain a i) (Ideal.ofBits .f32 0x00000000#32) (expo a i))
    = Scalar.select (plain a i) (Ideal.ofBits .f32 0x3F800000#32) (Ideal.exp2 (expo a i))
  unfold Scalar.select
  split
  · rw [Ideal.ofBits_zero_f32, one_pattern, exp2_zero]
  · rfl

/-- The two ways to choose the inverse scale agree. -/
theorem refDown_apply {s : Shape} (a : FVec Ideal s .f32) (i : s.Idx) : refDown a i = downS (a i) := by
  show Ideal.exp2 (Ideal.ofBits .f32 0x00000000#32 - Scalar.select (plain a i) (Ideal.ofBits .f32 0x00000000#32) (expo a i))
    = Scalar.select (plain a i) (Ideal.ofBits .f32 0x3F800000#32) (Ideal.exp2 (Ideal.ofBits .f32 0x00000000#32 - expo a i))
  unfold Scalar.select
  split
  · rw [Ideal.ofBits_zero_f32, one_pattern, sub_zero, exp2_zero]
  · rfl

theorem encode_apply {s : Shape} (v inv : FVec Ideal s .f32) (h : FTy.bits .fp8e5m2 < FTy.bits .f32) (i : s.Idx) (a : EReal)
    (hd : inv i = downS a) : encode v inv h i = codeS (v i) a := by
  show min _ (max _ (v i * inv i)) = min _ (max _ (v i * downS a))
  rw [hd]; rfl

theorem limit_pattern : Ideal.ofBits .bf16 0x4760#16 = Ideal.ofBits .f32 0x47600000#32 := by
  simp [Ideal.ofBits, Ideal.ieee, -EReal.coe_mul]; norm_num
theorem neg_limit_pattern : Ideal.ofBits .bf16 0xC760#16 = Ideal.ofBits .f32 0xC7600000#32 := by
  simp [Ideal.ofBits, Ideal.ieee, -EReal.coe_mul]; norm_num
theorem bottom_pattern : Ideal.ofBits .bf16 0xFF80#16 = Ideal.ofBits .f32 0xFF800000#32 := by
  simp [Ideal.ofBits, Ideal.ieee]

theorem encodeHalf_apply {s : Shape} (v inv : FVec Ideal s .bf16) (h : FTy.bits .fp8e5m2 < FTy.bits .bf16) (i : s.Idx) (a : EReal)
    (hd : inv i = downS a) : encodeHalf v inv h i = codeS (v i) a := by
  show min (Ideal.ofBits .bf16 0x4760#16) (max (Ideal.ofBits .bf16 0xC760#16) (v i * inv i))
    = min (Ideal.ofBits .f32 0x47600000#32) (max (Ideal.ofBits .f32 0xC7600000#32) (v i * downS a))
  rw [limit_pattern, neg_limit_pattern, hd]

/-! ### Arrays at natural-number coordinates -/

/-- A matrix read at natural-number coordinates (0 outside it). -/
def nat2 {A B : ℕ} (x : (M2 A B).Idx → EReal) (a b : ℕ) : EReal :=
  if h : a < A ∧ b < B then x (ix2 ⟨a, h.1⟩ ⟨b, h.2⟩) else 0

theorem nat2_of {A B : ℕ} (x : (M2 A B).Idx → EReal) (a b : ℕ) (ha : a < A) (hb : b < B) :
    nat2 x a b = x (ix2 ⟨a, ha⟩ ⟨b, hb⟩) := dif_pos ⟨ha, hb⟩

/-- The greatest absolute value of 128 entries. -/
def blockMax (f : ℕ → EReal) : EReal :=
  (Finset.univ : Finset (Fin 128)).fold max (Ideal.ofBits .f32 0xFF800000#32) fun k => max (f k.val) (-f k.val)

theorem blockMax_congr {f g : ℕ → EReal} (h : ∀ q < 128, f q = g q) : blockMax f = blockMax g :=
  Finset.fold_congr fun k _ => by rw [h k.val k.isLt]

/-- Of row `a`, the greatest absolute value in the `b`-th 128 columns. -/
def rowMax (v : ℕ → ℕ → EReal) (a b : ℕ) : EReal := blockMax fun q => v a (128 * b + q)
/-- Of column `d`, the greatest absolute value in the `b`-th 128 rows. -/
def colMax (v : ℕ → ℕ → EReal) (b d : ℕ) : EReal := blockMax fun q => v (128 * b + q) d
/-- The scales of the rows, 128 columns to a scale. -/
def rowScale (v : ℕ → ℕ → EReal) (a b : ℕ) : EReal := upS (rowMax v a b)
/-- The scales of the columns, 128 rows to a scale. -/
def colScale (v : ℕ → ℕ → EReal) (b d : ℕ) : EReal := upS (colMax v b d)
/-- The codes under the scales of the rows. -/
def rowCode (v : ℕ → ℕ → EReal) (a d : ℕ) : EReal := codeS (v a d) (rowMax v a (d / 128))
/-- The codes under the scales of the columns. -/
def colCode (v : ℕ → ℕ → EReal) (a d : ℕ) : EReal := codeS (v a d) (colMax v (a / 128) d)

/-- The gradient before the activation: row `a` of the coded `dy` against row `f` of the scaled weights. -/
def dA (dy w ws : ℕ → ℕ → EReal) (a f : ℕ) : EReal :=
  ∑ k : Fin 4096, (rowCode dy a k.val * rowScale dy a (k.val / 128)) * (w f k.val * ws (f / 128) k.val)

/-- The gate's part of the gradient of the activation. -/
def gateS (da g u : EReal) : EReal :=
  da * u * Ideal.logistic g * (Ideal.ofBits .f32 0x3F800000#32 + g * (Ideal.ofBits .f32 0x3F800000#32 - Ideal.logistic g))
/-- The other part. -/
def valueS (da g : EReal) : EReal := da * g * Ideal.logistic g

/-- The gradient of the activation: 3456 columns of the gate's part, then 3456 of the other. -/
def dH (dy g u w ws : ℕ → ℕ → EReal) (a j : ℕ) : EReal :=
  if j < 3456 then gateS (dA dy w ws a j) (g a j) (u a j) else valueS (dA dy w ws a (j - 3456)) (g a (j - 3456))

/-- The gradient of the activation, of the whole arrays: `dy`, the activation's input `gu` (its gate's 3456 columns, then the others),
    the weights' codes and their scales, one scale to 128 × 128 codes. -/
def hAll (dy : (M2 6144 4096).Idx → EReal) (gu : (M2 6144 6912).Idx → EReal) (w : (M2 3456 4096).Idx → EReal)
    (ws : (M2 27 32).Idx → EReal) : ℕ → ℕ → EReal :=
  dH (nat2 dy) (nat2 gu) (fun a j => nat2 gu a (3456 + j)) (nat2 w) (fun f k => nat2 ws f (k / 128))

/-! The block that starts at row `r` of a whole array has the whole array's values there. -/

section Shift
variable {v V : ℕ → ℕ → EReal} {R C r : ℕ}

theorem rowMax_shift (h : ∀ a < R, ∀ d < C, v a d = V (r + a) d) (a b : ℕ) (ha : a < R) (hb : 128 * b + 128 ≤ C) :
    rowMax v a b = rowMax V (r + a) b := blockMax_congr fun q hq => h a ha _ (by omega)

theorem colMax_shift (h : ∀ a < R, ∀ d < C, v a d = V (r + a) d) (n : ℕ) (hr : r = 128 * n) (b d : ℕ) (hb : 128 * b + 128 ≤ R)
    (hd : d < C) : colMax v b d = colMax V (n + b) d :=
  blockMax_congr fun q hq => (h _ (by omega) d hd).trans (congrArg (fun x => V x d) (by omega))

theorem rowScale_shift (h : ∀ a < R, ∀ d < C, v a d = V (r + a) d) (a b : ℕ) (ha : a < R) (hb : 128 * b + 128 ≤ C) :
    rowScale v a b = rowScale V (r + a) b := congrArg upS (rowMax_shift h a b ha hb)

theorem colScale_shift (h : ∀ a < R, ∀ d < C, v a d = V (r + a) d) (n : ℕ) (hr : r = 128 * n) (b d : ℕ) (hb : 128 * b + 128 ≤ R)
    (hd : d < C) : colScale v b d = colScale V (n + b) d := congrArg upS (colMax_shift h n hr b d hb hd)

theorem rowCode_shift (h : ∀ a < R, ∀ d < C, v a d = V (r + a) d) (N : ℕ) (hN : C = 128 * N) (a d : ℕ) (ha : a < R) (hd : d < C) :
    rowCode v a d = rowCode V (r + a) d := by
  unfold rowCode
  rw [h a ha d hd, rowMax_shift h a (d / 128) ha (by omega)]

theorem colCode_shift (h : ∀ a < R, ∀ d < C, v a d = V (r + a) d) (n N : ℕ) (hr : r = 128 * n) (hN : R = 128 * N) (a d : ℕ)
    (ha : a < R) (hd : d < C) : colCode v a d = colCode V (r + a) d := by
  unfold colCode
  rw [h a ha d hd, colMax_shift h n hr (a / 128) d (by omega) hd]
  congr 2; omega

theorem dA_shift {dy DY w W ws WS : ℕ → ℕ → EReal} (h : ∀ a < R, ∀ d < 4096, dy a d = DY (r + a) d)
    (hw : ∀ f < 3456, ∀ k < 4096, w f k = W f k) (hs : ∀ f < 27, ∀ k < 4096, ws f k = WS f k) (a f : ℕ) (ha : a < R) (hf : f < 3456) :
    dA dy w ws a f = dA DY W WS (r + a) f := by
  unfold dA
  refine Finset.sum_congr rfl fun k _ => ?_
  rw [rowCode_shift h 32 rfl a k.val ha k.isLt, rowScale_shift h a (k.val / 128) ha (by omega), hw f hf k.val k.isLt,
    hs (f / 128) (by omega) k.val k.isLt]

theorem dH_shift {dy DY g G u U w W ws WS : ℕ → ℕ → EReal} (h : ∀ a < R, ∀ d < 4096, dy a d = DY (r + a) d)
    (hg : ∀ a < R, ∀ d < 3456, g a d = G (r + a) d) (hu : ∀ a < R, ∀ d < 3456, u a d = U (r + a) d)
    (hw : ∀ f < 3456, ∀ k < 4096, w f k = W f k) (hs : ∀ f < 27, ∀ k < 4096, ws f k = WS f k) (a : ℕ) (ha : a < R) (j : ℕ) (hj : j < 6912) :
    dH dy g u w ws a j = dH DY G U W WS (r + a) j := by
  unfold dH
  split
  · rw [dA_shift h hw hs a j ha (by omega), hg a ha j (by omega), hu a ha j (by omega)]
  · rw [dA_shift h hw hs a (j - 3456) ha (by omega), hg a ha (j - 3456) (by omega)]

end Shift

end Cert.Proof.Dh

end
-- ==== Proof.DhBlock.lean ====
/-
  Hand-written. What the gradient kernel writes at one grid point, as functions of its five input blocks: 256 rows of `dy` (`x`),
  of the gate (`g`) and of the other half (`u`), the weights' codes (`w`) and their scales, one row per 128 rows of codes (`ws`).
  The kernel codes `dy` 128 × 128 entries at a time, along columns and along rows, keeps the coded `dy` times its row scales in a
  scratch array (`leftArr`), multiplies it with 256 scaled rows of the weights at a time (`daTile` is 128 × 128 entries of the
  product), forms the gradient of the activation (`hTile`) and codes it the same two ways.
-/
module

public import proofs.«01_k».proof.Proof.DhSpec
public import proofs.«01_k».proof.Proof.DxBlock

@[expose] public section

set_option maxRecDepth 16384

noncomputable section

namespace Cert.Proof.Dh

open Idealize.ShloMosaic hiding ix2 eq_ix2 mulf_apply extf_apply truncf_apply
open Idealize.ShloMosaic.ValueIdx
open Cert.Proof.Scaled (M2 M3 inb2 row_broadcasts stack_concatenates)
open Cert.Proof.DxBlock (col_broadcasts)

/-- A vector shape. -/
abbrev M1 (a : ℕ) : Shape := ⟨1, ![a]⟩

/-- Reducing the rows of 128 × 128 entries. -/
theorem reduces_rows : (M2 128 128).Reduces [0] (M1 128) := by decide
/-- Reducing their columns. -/
theorem reduces_cols : (M2 128 128).Reduces [1] (M1 128) := by decide

/-- 128 entries as one row. -/
theorem casts_row : (M1 128).ShapeCasts (M2 1 128) := by decide
/-- 128 entries as one column. -/
theorem casts_col : (M1 128).ShapeCasts (M2 128 1) := by decide
/-- One row as a row of one plane. -/
theorem casts_plane : (M2 1 128).ShapeCasts (M3 1 1 128) := by decide

/-- Column `b` of 128 × 128 entries is a slice of them. -/
theorem lane_slices (b : ℕ) (h : b < 128) : (M2 128 128).Slices ![0, b] (M2 128 1) :=
  ⟨rfl, fun x => by fin_cases x; exact (Nat.zero_add 128).le; exact h⟩

/-- The first `n` columns of 128 × 128 entries are a slice of them. -/
theorem head_slices (n : ℕ) (h : n ≤ 128) : (M2 128 128).Slices ![0, 0] (M2 128 n) :=
  ⟨rfl, fun x => by fin_cases x; exact (Nat.zero_add 128).le; exact (Nat.zero_add n).le.trans h⟩

/-- A tile of 128 × 128 entries is a slice of a matrix. -/
theorem tile_slices (A B r c : ℕ) (hr : r + 128 ≤ A) (hc : c + 128 ≤ B) : (M2 A B).Slices ![r, c] (M2 128 128) :=
  ⟨rfl, fun x => by fin_cases x; exact hr; exact hc⟩

/-- 128 columns of one row of the only plane of a `1 × a × b` array are a rectangle of it. -/
theorem inb3 {a b r c : ℕ} (hr : r + 1 ≤ a) (hc : c + 128 ≤ b) :
    ∀ x : Fin (M3 1 a b).rank, (![0, r, c] : Fin 3 → ℕ) x + (![1, 1, 128] : Fin 3 → ℕ) x ≤ (M3 1 a b).size x :=
  fun x => by fin_cases x; exact Nat.le_refl 1; exact hr; exact hc

section Any
variable {F : FTy → Type} [FloatOps F]

/-- 128 × 128 entries of a matrix, from row `r` and column `c` on. -/
def tileOf {φ : FTy} {A B : ℕ} (x : (M2 A B).Idx → F φ) (r c : ℕ) (hr : r + 128 ≤ A) (hc : c + 128 ≤ B) : FVec F (M2 128 128) φ :=
  fun y => x ((Rect.unit (s := M2 A B) ![r, c] ![128, 128] (inb2 hr hc)).idx y)

/-- Every column's greatest absolute value. -/
def colTop (v : FVec F (M2 128 128) .f32) : FVec F (M2 1 128) .f32 :=
  shapeCast (M2 1 128) (multiReduction .maximumf [0] (M1 128) (absf v) 0xFF800000#32 reduces_rows (.inl rfl) rfl) casts_row

/-- Every row's greatest absolute value. -/
def rowTop (v : FVec F (M2 128 128) .f32) : FVec F (M2 128 1) .f32 :=
  shapeCast (M2 128 1) (multiReduction .maximumf [1] (M1 128) (absf v) 0xFF800000#32 reduces_cols (.inl rfl) rfl) casts_col

/-- Every column's greatest absolute value, of bf16 entries. -/
def colTopHalf (hb : FTy.bits .bf16 < FTy.bits .f32) (v : FVec F (M2 128 128) .bf16) : FVec F (M2 1 128) .f32 :=
  extf .f32 (shapeCast (M2 1 128) (multiReduction .maximumf [0] (M1 128) (absf v) 0xFF80#16 reduces_rows (.inr rfl) rfl) casts_row) hb

/-- Every row's greatest absolute value, of bf16 entries. -/
def rowTopHalf (hb : FTy.bits .bf16 < FTy.bits .f32) (v : FVec F (M2 128 128) .bf16) : FVec F (M2 128 1) .f32 :=
  shapeCast (M2 128 1) (multiReduction .maximumf [1] (M1 128) (extf .f32 (absf v) hb) 0xFF800000#32 reduces_cols (.inl rfl) rfl) casts_col

/-- Every entry's column number. -/
def lane : IVec (M2 128 128) 32 := iota .tc (M2 128 128) 32 [1] (by decide)

/-- The column numbered `b` replaced by `v`. -/
def setLane (b : ℕ) (v : FVec F (M2 128 1) .f32) (m : FVec F (M2 128 128) .f32) : FVec F (M2 128 128) .f32 :=
  select (cmpi .eq lane (broadcast (M2 128 128) (BitVec.ofNat 32 b))) (broadcastTo (M2 128 128) (shapeCast (M2 128 1) v rfl) (col_broadcasts 128 128)) m

/-- From zeros, the columns `σ 0 … σ (n - 1)` replaced one after another. -/
def setLanes (N : ℕ) (σ : Fin N → ℕ) (v : Fin N → FVec F (M2 128 1) .f32) : (n : ℕ) → n ≤ N → FVec F (M2 128 128) .f32 :=
  Nat.rec (fun _ => broadcast (M2 128 128) (Scalar.ofBits .f32 0x00000000#32))
    fun n ih h => setLane (σ ⟨n, h⟩) (v ⟨n, h⟩) (ih (Nat.le_of_succ_le h))

/-- Column `j`, repeated. -/
def laneColumn (m : FVec F (M2 128 128) .bf16) (j : ℕ) (h : j < 128) : FVec F (M2 128 128) .bf16 :=
  broadcastTo (M2 128 128) (shapeCast (M2 128 1) (extractStridedSlice (M2 128 1) ![0, j] m (lane_slices j h)) rfl) (col_broadcasts 128 128)

variable (h8 : FTy.bits .fp8e5m2 < FTy.bits .bf16) (h9 : FTy.bits .fp8e5m2 < FTy.bits .f32) (hw : FTy.bits .fp8e4m3 < FTy.bits .bf16)
  (hb : FTy.bits .bf16 < FTy.bits .f32)
  (x : (M2 256 4096).Idx → F .bf16) (g u : (M2 256 3456).Idx → F .bf16)
  (w : (M2 3456 4096).Idx → F .fp8e4m3) (ws : (M2 27 4096).Idx → F .f32)

/-- A tile of `dy`. -/
def dyTile (r : Fin 2) (b : Fin 32) : FVec F (M2 128 128) .bf16 :=
  tileOf x (128 * r.val) (128 * b.val) (by omega) (by omega)

/-- The codes of `dy` along columns. -/
def dyColCodes : (M2 256 4096).Idx → F .fp8e5m2 :=
  View.canon (Val := Elt F) (e := .fp8e5m2) (List.ofFn fun k : Fin 64 =>
    ⟨Rect.unit ![128 * ((63 - k.val) / 32), 128 * ((63 - k.val) % 32)] ![128, 128] (inb2 (by omega) (by omega)),
      encodeHalf (dyTile x ⟨(63 - k.val) / 32, by omega⟩ ⟨(63 - k.val) % 32, by omega⟩)
        (broadcastTo (M2 128 128) (truncf .bf16 (down (colTopHalf hb (dyTile x ⟨(63 - k.val) / 32, by omega⟩ ⟨(63 - k.val) % 32, by omega⟩))) hb)
          (row_broadcasts 128 128)) h8⟩)

/-- Their scales. -/
def dyColScales : (M3 1 2 4096).Idx → F .f32 :=
  View.canon (Val := Elt F) (e := .f32) (List.ofFn fun k : Fin 64 =>
    ⟨Rect.unit ![0, (63 - k.val) / 32, 128 * ((63 - k.val) % 32)] ![1, 1, 128] (inb3 (by omega) (by omega)),
      shapeCast (M3 1 1 128) (up (colTopHalf hb (dyTile x ⟨(63 - k.val) / 32, by omega⟩ ⟨(63 - k.val) % 32, by omega⟩))) casts_plane⟩)

/-- The greatest absolute values along rows, one column per 128 columns of `dy`. -/
def dyRowTops (r : Fin 2) : FVec F (M2 128 128) .f32 :=
  setLanes 32 (fun b => b.val) (fun b => rowTopHalf hb (dyTile x r b)) 32 (Nat.le_refl 32)

/-- The scales of `dy` along rows. -/
def dyRowScales : (M2 256 32).Idx → F .f32 :=
  View.canon (Val := Elt F) (e := .f32) (List.ofFn fun k : Fin 2 =>
    ⟨Rect.unit ![128 * (1 - k.val), 0] ![128, 32] (inb2 (by omega) (by omega)),
      extractStridedSlice (M2 128 32) ![0, 0] (up (dyRowTops hb x ⟨1 - k.val, by omega⟩)) (head_slices 32 (by omega))⟩)

/-- A tile of the codes of `dy` along rows. -/
def dyRowTile (r : Fin 2) (b : Fin 32) : FVec F (M2 128 128) .fp8e5m2 :=
  encodeHalf (dyTile x r b) (laneColumn (truncf .bf16 (down (dyRowTops hb x r)) hb) b.val (by omega)) h8

/-- The codes of `dy` along rows. -/
def dyRowCodes : (M2 256 4096).Idx → F .fp8e5m2 :=
  View.canon (Val := Elt F) (e := .fp8e5m2) (List.ofFn fun k : Fin 64 =>
    ⟨Rect.unit ![128 * ((63 - k.val) / 32), 128 * ((63 - k.val) % 32)] ![128, 128] (inb2 (by omega) (by omega)),
      dyRowTile h8 hb x ⟨(63 - k.val) / 32, by omega⟩ ⟨(63 - k.val) % 32, by omega⟩⟩)

/-- A tile of the scratch array. -/
def leftTile (r : Fin 2) (b : Fin 32) : FVec F (M2 128 128) .bf16 :=
  mulf (extf .bf16 (dyRowTile h8 hb x r b) h8) (laneColumn (truncf .bf16 (up (dyRowTops hb x r)) hb) b.val (by omega))

/-- The scratch array: the coded `dy` times its row scales. -/
def leftArr : FVec F (M2 256 4096) .bf16 :=
  fun j => View.canon (Val := Elt F) (e := .bf16) (List.ofFn fun k : Fin 64 =>
    ⟨Rect.unit ![128 * ((63 - k.val) / 32), 128 * ((63 - k.val) % 32)] ![128, 128] (inb2 (by omega) (by omega)),
      shapeCast (M2 128 128) (leftTile h8 hb x ⟨(63 - k.val) / 32, by omega⟩ ⟨(63 - k.val) % 32, by omega⟩) rfl⟩)
    ((Rect.unit (s := M2 256 4096) ![0, 0] ![256, 4096] (inb2 (by omega) (by omega))).toLoadRect.idx j)

/-- 128 rows of the weights, scaled. -/
def rightTile (n : ℕ) (hn : n < 27) : FVec F (M2 128 4096) .bf16 :=
  mulf (extf .bf16 (fun y => w ((Rect.unit (s := M2 3456 4096) ![128 * n, 0] ![128, 4096] (inb2 (by omega) (by omega))).idx y)) hw)
    (broadcastTo (M2 128 4096) (truncf .bf16 (shapeCast (M2 1 4096)
      (fun y => ws ((Rect.unit (s := M2 27 4096) ![n, 0] ![1, 4096] (inb2 (by omega) (by omega))).idx y) : (M2 1 4096).Idx → F .f32)
      rfl) hb) (row_broadcasts 128 4096))

/-- 256 columns of the product. -/
def daChunk (c : ℕ) (hc : c < 13) : FVec F (M2 256 256) .f32 :=
  matmul (DotDims.transposedRhs 256 4096 256) none (leftArr h8 hb x)
    (concatenate (M2 256 4096) 0 (List.ofFn fun k : Fin 2 => ⟨M2 128 4096, rightTile hw hb w ws (2 * c + k.val) (by omega)⟩)
      (stack_concatenates (by decide) (by decide) _))
    (constant (M2 256 256) .f32 0x00000000#32)

/-- The last 128 columns of the product. -/
def daLast : FVec F (M2 256 128) .f32 :=
  matmul (DotDims.transposedRhs 256 4096 128) none (leftArr h8 hb x) (rightTile hw hb w ws 26 (by omega))
    (constant (M2 256 128) .f32 0x00000000#32)

/-- 128 × 128 entries of the product. -/
def daTile (r : Fin 2) (f : Fin 27) : FVec F (M2 128 128) .f32 :=
  if h : f.val < 26 then
    extractStridedSlice (M2 128 128) ![128 * r.val, 128 * (f.val % 2)] (daChunk h8 hw hb x w ws (f.val / 2) (by omega))
      (tile_slices 256 256 _ _ (by omega) (by omega))
  else extractStridedSlice (M2 128 128) ![128 * r.val, 0] (daLast h8 hw hb x w ws) (tile_slices 256 128 _ _ (by omega) (by omega))

/-- The gate's part of the gradient of the activation. -/
def gate {s : Shape} (da g u : FVec F s .f32) : FVec F s .f32 :=
  mulf (mulf (mulf da u) (logistic g)) (addf (broadcast s (Scalar.ofBits .f32 0x3F800000#32))
    (mulf g (subf (broadcast s (Scalar.ofBits .f32 0x3F800000#32)) (logistic g))))

/-- The other part. -/
def value {s : Shape} (da g : FVec F s .f32) : FVec F s .f32 := mulf (mulf da g) (logistic g)

/-- 128 × 128 entries of the gradient of the activation: of the gate's part (`p = 0`) or of the other (`p = 1`). -/
def hTile (r : Fin 2) (f : Fin 27) (p : ℕ) : FVec F (M2 128 128) .f32 :=
  if p = 0 then
    gate (daTile h8 hw hb x w ws r f) (extf .f32 (tileOf g (128 * r.val) (128 * f.val) (by omega) (by omega)) hb)
      (extf .f32 (tileOf u (128 * r.val) (128 * f.val) (by omega) (by omega)) hb)
  else value (daTile h8 hw hb x w ws r f) (extf .f32 (tileOf g (128 * r.val) (128 * f.val) (by omega) (by omega)) hb)

/-- The codes of the gradient along columns. -/
def hColCodes : (M2 256 6912).Idx → F .fp8e5m2 :=
  View.canon (Val := Elt F) (e := .fp8e5m2) (List.ofFn fun k : Fin 108 =>
    ⟨Rect.unit ![128 * ((107 - k.val) / 2 % 2), 128 * (27 * ((107 - k.val) % 2) + (107 - k.val) / 4)] ![128, 128] (inb2 (by omega) (by omega)),
      encode (hTile h8 hw hb x g u w ws ⟨(107 - k.val) / 2 % 2, by omega⟩ ⟨(107 - k.val) / 4, by omega⟩ ((107 - k.val) % 2))
        (broadcastTo (M2 128 128) (down (colTop (hTile h8 hw hb x g u w ws ⟨(107 - k.val) / 2 % 2, by omega⟩ ⟨(107 - k.val) / 4, by omega⟩
          ((107 - k.val) % 2)))) (row_broadcasts 128 128)) h9⟩)

/-- Their scales. -/
def hColScales : (M3 1 2 6912).Idx → F .f32 :=
  View.canon (Val := Elt F) (e := .f32) (List.ofFn fun k : Fin 108 =>
    ⟨Rect.unit ![0, (107 - k.val) / 2 % 2, 128 * (27 * ((107 - k.val) % 2) + (107 - k.val) / 4)] ![1, 1, 128] (inb3 (by omega) (by omega)),
      shapeCast (M3 1 1 128) (up (colTop (hTile h8 hw hb x g u w ws ⟨(107 - k.val) / 2 % 2, by omega⟩ ⟨(107 - k.val) / 4, by omega⟩
        ((107 - k.val) % 2)))) casts_plane⟩)

/-- The codes of the gradient along rows. -/
def hRowCodes : (M2 256 6912).Idx → F .fp8e5m2 :=
  View.canon (Val := Elt F) (e := .fp8e5m2) (List.ofFn fun k : Fin 108 =>
    ⟨Rect.unit ![128 * ((107 - k.val) / 2 % 2), 128 * (27 * ((107 - k.val) % 2) + (107 - k.val) / 4)] ![128, 128] (inb2 (by omega) (by omega)),
      encode (hTile h8 hw hb x g u w ws ⟨(107 - k.val) / 2 % 2, by omega⟩ ⟨(107 - k.val) / 4, by omega⟩ ((107 - k.val) % 2))
        (broadcastTo (M2 128 128) (down (rowTop (hTile h8 hw hb x g u w ws ⟨(107 - k.val) / 2 % 2, by omega⟩ ⟨(107 - k.val) / 4, by omega⟩
          ((107 - k.val) % 2)))) (col_broadcasts 128 128)) h9⟩)

/-- The scales along rows, one column per 128 columns of the gradient. -/
def hRowUps (r : Fin 2) : FVec F (M2 128 128) .f32 :=
  setLanes 54 (fun n => 27 * (n.val % 2) + n.val / 2)
    (fun n => up (rowTop (hTile h8 hw hb x g u w ws r ⟨n.val / 2, by omega⟩ (n.val % 2)))) 54 (Nat.le_refl 54)

/-- The scales of the gradient along rows. -/
def hRowScales : (M2 256 54).Idx → F .f32 :=
  View.canon (Val := Elt F) (e := .f32) (List.ofFn fun k : Fin 2 =>
    ⟨Rect.unit ![128 * (1 - k.val), 0] ![128, 54] (inb2 (by omega) (by omega)),
      extractStridedSlice (M2 128 54) ![0, 0] (hRowUps h8 hw hb x g u w ws ⟨1 - k.val, by omega⟩) (head_slices 54 (by omega))⟩)

end Any

end Cert.Proof.Dh

end
-- ==== Proof.DhOut.lean ====
/-
  Hand-written. What one grid step of the gradient kernel leaves in each of its eight output blocks: the generated run of a step
  writes a block piece by piece, and the block it ends with is the one that DhBlock.lean describes.
-/
module

public import proofs.«01_k».proof.Proof.Gen.DhIdeal.Frame
public import proofs.«01_k».proof.Proof.DhBlock

@[expose] public section

set_option maxRecDepth 16384

noncomputable section

namespace Cert.Proof.DhKernel

open Idealize.ShloMosaic hiding ix2 eq_ix2
open Idealize.ShloMosaic.ValueIdx (ix2 eq_ix2)
open Idealize.ShloMosaic.TcCoe Idealize.SL.Sem Cert.DhIdeal Cert.DhIdeal.Gen

variable {F : FTy → Type} [FloatOps F]

/-- The codes of `dy` along rows. -/
theorem out_eq_5 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.dyRowCodes bitsLt_fp8e5m2_bf16 bitsLt_bf16_f32 x0 := by
  frame_open
  simp (disch := decide) only [View.read_writes_junk_eq_canon, View.readAt_eq_ld, Memref.IsWhole.read_unread]
  sl_kernel_rfl

/-- The scales of `dy` along rows. -/
theorem out_eq_6 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.dyRowScales bitsLt_bf16_f32 x0 := by
  frame_open
  simp (disch := decide) only [View.read_writes_junk_eq_canon, View.readAt_eq_ld, Memref.IsWhole.read_unread]
  sl_kernel_rfl

/-- The codes of `dy` along columns. -/
theorem out_eq_7 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.dyColCodes bitsLt_fp8e5m2_bf16 bitsLt_bf16_f32 x0 := by
  frame_open
  simp (disch := decide) only [View.read_writes_junk_eq_canon, View.readAt_eq_ld, Memref.IsWhole.read_unread]
  sl_kernel_rfl

/-- The scales of `dy` along columns. -/
theorem out_eq_8 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.dyColScales bitsLt_bf16_f32 x0 := by
  frame_open
  simp (disch := decide) only [View.read_writes_junk_eq_canon, View.readAt_eq_ld, Memref.IsWhole.read_unread]
  sl_kernel_rfl

/-- The codes of the gradient along rows. -/
theorem out_eq_9 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.hRowCodes bitsLt_fp8e5m2_bf16 bitsLt_fp8e5m2_f32 bitsLt_fp8e4m3_bf16 bitsLt_bf16_f32 x0 x1 x2 x3 x4 := by
  frame_open
  simp (disch := decide) only [View.read_writes_junk_eq_canon, View.readAt_eq_ld, Memref.IsWhole.read_unread]
  simp only [View.readCov_eq_canon']
  sl_kernel_rfl

/-- The scales of the gradient along rows. -/
theorem out_eq_10 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.hRowScales bitsLt_fp8e5m2_bf16 bitsLt_fp8e4m3_bf16 bitsLt_bf16_f32 x0 x1 x2 x3 x4 := by
  frame_open
  simp (disch := decide) only [View.read_writes_junk_eq_canon, View.readAt_eq_ld, Memref.IsWhole.read_unread]
  simp only [View.readCov_eq_canon']
  sl_kernel_rfl

/-- The codes of the gradient along columns. -/
theorem out_eq_11 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.hColCodes bitsLt_fp8e5m2_bf16 bitsLt_fp8e5m2_f32 bitsLt_fp8e4m3_bf16 bitsLt_bf16_f32 x0 x1 x2 x3 x4 := by
  frame_open
  simp (disch := decide) only [View.read_writes_junk_eq_canon, View.readAt_eq_ld, Memref.IsWhole.read_unread]
  simp only [View.readCov_eq_canon']
  sl_kernel_rfl

/-- The scales of the gradient along columns. -/
theorem out_eq_12 (c : Dev nD) (i : grid0.Coords) (arg1 : Memref sig .tc .vmem S256x4096 .bf16) (harg1 : arg1.IsWhole) (arg2 : Memref sig .tc .vmem S256x3456 .bf16) (harg2 : arg2.IsWhole) (arg3 : Memref sig .tc .vmem S256x3456 .bf16) (harg3 : arg3.IsWhole) (arg4 : Memref sig .tc .vmem S3456x4096 .fp8e4m3) (harg4 : arg4.IsWhole) (arg5 : Memref sig .tc .vmem S27x4096 .f32) (harg5 : arg5.IsWhole) (arg6 : Memref sig .tc .vmem S256x4096 .fp8e5m2) (harg6 : arg6.IsWhole) (arg7 : Memref sig .tc .vmem S256x32 .f32) (harg7 : arg7.IsWhole) (arg8 : Memref sig .tc .vmem S256x4096 .fp8e5m2) (harg8 : arg8.IsWhole) (arg9 : Memref sig .tc .vmem S1x2x4096 .f32) (harg9 : arg9.IsWhole) (arg10 : Memref sig .tc .vmem S256x6912 .fp8e5m2) (harg10 : arg10.IsWhole) (arg11 : Memref sig .tc .vmem S256x54 .f32) (harg11 : arg11.IsWhole) (arg12 : Memref sig .tc .vmem S256x6912 .fp8e5m2) (harg12 : arg12.IsWhole) (arg13 : Memref sig .tc .vmem S1x2x6912 .f32) (harg13 : arg13.IsWhole) (arg14 : Memref sig .tc .vmem S256x4096 .bf16) (harg14 : arg14.IsWhole)
    (x0 : Vec F S256x4096 .bf16) (x1 : Vec F S256x3456 .bf16) (x2 : Vec F S256x3456 .bf16) (x3 : Vec F S3456x4096 .fp8e4m3) (x4 : Vec F S27x4096 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 = Dh.hColScales bitsLt_fp8e5m2_bf16 bitsLt_fp8e4m3_bf16 bitsLt_bf16_f32 x0 x1 x2 x3 x4 := by
  frame_open
  simp (disch := decide) only [View.read_writes_junk_eq_canon, View.readAt_eq_ld, Memref.IsWhole.read_unread]
  simp only [View.readCov_eq_canon']
  sl_kernel_rfl

end Cert.Proof.DhKernel

end
-- ==== Proof.DhValue.lean ====
/-
  Hand-written. Over the extended reals, the blocks that DhBlock.lean describes, read at an index: every one of them is the function
  of natural-number coordinates that DhSpec.lean names, of the block's inputs.
-/
module

public import proofs.«01_k».proof.Proof.DhBlock

@[expose] public section

set_option maxRecDepth 16384

noncomputable section

namespace Cert.Proof.Dh

open Idealize.ShloMosaic hiding ix1 ix2 eq_ix2 mulf_apply extf_apply truncf_apply
open Idealize.ShloMosaic.ValueIdx
open Cert.Proof.Scaled (M2 M3 at3 inb2 row_broadcasts stack_concatenates)
open Cert.Proof.DxBlock (col_broadcasts)

/-! ### Blocks that are written tile by tile -/

section Tiles
variable {Val : EltTy → Type} [∀ e, Nonempty (Val e)] {e : EltTy} {N : ℕ}

/-- A matrix written in tiles, each of which holds its part of `V`, holds `V` wherever some tile lies. -/
theorem canon_grid {A B T U : ℕ} (R C : Fin N → ℕ)
    (inb : ∀ k, ∀ x : Fin (M2 A B).rank, (![R k, C k] : Fin 2 → ℕ) x + (![T, U] : Fin 2 → ℕ) x ≤ (M2 A B).size x)
    (P : Fin N → (M2 T U).Idx → Val e) (V : ℕ → ℕ → Val e)
    (hP : ∀ k (p : Fin T) (q : Fin U), P k (ix2 p q) = V (R k + p.val) (C k + q.val)) (a : Fin A) (b : Fin B)
    (hc : ∃ k, (R k ≤ a.val ∧ a.val < R k + T) ∧ (C k ≤ b.val ∧ b.val < C k + U)) :
    View.canon (List.ofFn fun k => (⟨Rect.unit ![R k, C k] ![T, U] (inb k), P k⟩ : View.Piece Val (M2 A B) e)) (ix2 a b)
      = V a.val b.val := by
  refine View.canon_ofFn_unit_eq_of_forall (S := M2 A B) _ ![T, U] _ _ _ _ ?_ ?_
  · obtain ⟨k, h0, h1⟩ := hc
    exact ⟨k, Fin.forall_fin_two.2 ⟨h0, h1⟩⟩
  · intro k y hy
    have h0 : a.val = R k + (y 0).val := hy 0
    have h1 : b.val = C k + (y 1).val := hy 1
    refine (congrArg _ (eq_ix2 (n0 := T) (n1 := U) y)).trans ?_
    rw [h0, h1]
    exact hP k (y 0) (y 1)

/-- The same for the only plane of a `1 × A × B` array, written 128 columns of one row at a time. -/
theorem canon_rows {A B : ℕ} (R C : Fin N → ℕ)
    (inb : ∀ k, ∀ x : Fin (M3 1 A B).rank, (![0, R k, C k] : Fin 3 → ℕ) x + (![1, 1, 128] : Fin 3 → ℕ) x ≤ (M3 1 A B).size x)
    (P : Fin N → (M3 1 1 128).Idx → Val e) (V : ℕ → ℕ → Val e)
    (hP : ∀ k (q : Fin 128), P k (at3 0 0 q) = V (R k) (C k + q.val)) (a : Fin A) (b : Fin B)
    (hc : ∃ k, R k = a.val ∧ (C k ≤ b.val ∧ b.val < C k + 128)) :
    View.canon (List.ofFn fun k => (⟨Rect.unit ![0, R k, C k] ![1, 1, 128] (inb k), P k⟩ : View.Piece Val (M3 1 A B) e)) (at3 0 a b)
      = V a.val b.val := by
  refine View.canon_ofFn_unit_eq_of_forall (S := M3 1 A B) _ ![1, 1, 128] _ _ _ _ ?_ ?_
  · obtain ⟨k, h0, h1, h2⟩ := hc
    refine ⟨k, fun x => ?_⟩
    fin_cases x
    · exact ⟨Nat.le_refl 0, Nat.one_pos⟩
    · exact ⟨h0.le, h0 ▸ Nat.lt_succ_self (R k)⟩
    · exact ⟨h1, h2⟩
  · intro k y hy
    have y0 : (y 0).val < 1 := (y 0).isLt
    have y1 : (y 1).val < 1 := (y 1).isLt
    have h0 : a.val = R k + (y 1).val := hy 1
    have h1 : b.val = C k + (y 2).val := hy 2
    have h0' : a.val = R k := by omega
    have e3 : y = at3 (0 : Fin 1) (0 : Fin 1) (y 2) := by
      funext x; apply Fin.ext
      fin_cases x
      · show (y 0).val = 0; omega
      · show (y 1).val = 0; omega
      · rfl
    refine (congrArg _ e3).trans ?_
    rw [h0', h1]
    exact hP k (y 2)

end Tiles

/-! ### The quantiser on one tile -/

variable {V : ℕ → ℕ → EReal}

/-- A tile holds the part of `V` in its `r`-th 128 rows and `c`-th 128 columns. -/
def TileIs (v : (M2 128 128).Idx → EReal) (V : ℕ → ℕ → EReal) (r c : ℕ) : Prop :=
  ∀ p q : Fin 128, v (ix2 p q) = V (128 * r + p.val) (128 * c + q.val)

theorem lift_rows (q k : Fin 128) : reduces_rows.lift (ix1 q) k = ix2 k q := by
  funext a; apply Fin.ext; fin_cases a <;> rfl
theorem lift_cols (p k : Fin 128) : reduces_cols.lift (ix1 p) k = ix2 p k := by
  funext a; apply Fin.ext; fin_cases a <;> rfl

/-- One row of 128 entries is the vector of them. -/
theorem row_cast (x : (M1 128).Idx → EReal) (q : Fin 128) : shapeCast (M2 1 128) x casts_row (ix2 (0 : Fin 1) q) = x (ix1 q) :=
  shapeCast_apply (s := M1 128) (t := M2 1 128) _ _ _ _ (by
    rw [Shape.rowMajor_val_one, Shape.rowMajor_val_two]; show q.val = 0 * 128 + q.val; omega)
/-- So is one column of them. -/
theorem col_cast (x : (M1 128).Idx → EReal) (p : Fin 128) : shapeCast (M2 128 1) x casts_col (ix2 p (0 : Fin 1)) = x (ix1 p) :=
  shapeCast_apply (s := M1 128) (t := M2 128 1) _ _ _ _ (by
    rw [Shape.rowMajor_val_one, Shape.rowMajor_val_two]; show p.val = p.val * 1 + 0; omega)
/-- One row as a row of one plane. -/
theorem plane_cast (x : (M2 1 128).Idx → EReal) (q : Fin 128) :
    shapeCast (M3 1 1 128) x casts_plane (at3 (0 : Fin 1) (0 : Fin 1) q) = x (ix2 (0 : Fin 1) q) :=
  shapeCast_apply (s := M2 1 128) (t := M3 1 1 128) _ _ _ _ (by
    rw [Shape.rowMajor_val_three, Shape.rowMajor_val_two]
    show 0 * 128 + q.val = (0 * 1 + 0) * 128 + q.val; omega)

theorem fold_blockMax {src : Fin 128 → EReal} {f : ℕ → EReal} (h : ∀ k : Fin 128, src k = max (f k.val) (-f k.val)) :
    (Finset.univ : Finset (Fin 128)).fold max (Ideal.ofBits .f32 0xFF800000#32) src = blockMax f :=
  Finset.fold_congr fun k _ => h k

theorem colTop_apply {v : FVec Ideal (M2 128 128) .f32} {r c : ℕ} (hv : TileIs v V r c) (q : Fin 128) :
    colTop v (ix2 (0 : Fin 1) q) = colMax V r (128 * c + q.val) := by
  unfold colTop
  refine (row_cast _ q).trans ((Ideal.multiReduction_maximumf_single _ _ _ _ _ _).trans ?_)
  refine fold_blockMax fun k => ?_
  show max (v (reduces_rows.lift (ix1 q) k)) (-v (reduces_rows.lift (ix1 q) k)) = _
  rw [lift_rows, hv]

theorem rowTop_apply {v : FVec Ideal (M2 128 128) .f32} {r c : ℕ} (hv : TileIs v V r c) (p : Fin 128) :
    rowTop v (ix2 p (0 : Fin 1)) = rowMax V (128 * r + p.val) c := by
  unfold rowTop
  refine (col_cast _ p).trans ((Ideal.multiReduction_maximumf_single _ _ _ _ _ _).trans ?_)
  refine fold_blockMax fun k => ?_
  show max (v (reduces_cols.lift (ix1 p) k)) (-v (reduces_cols.lift (ix1 p) k)) = _
  rw [lift_cols, hv]

theorem colTopHalf_apply (hb : FTy.bits .bf16 < FTy.bits .f32) {v : FVec Ideal (M2 128 128) .bf16} {r c : ℕ} (hv : TileIs v V r c)
    (q : Fin 128) : colTopHalf hb v (ix2 (0 : Fin 1) q) = colMax V r (128 * c + q.val) := by
  unfold colTopHalf
  rw [extf_apply]
  refine (row_cast _ q).trans ((Ideal.multiReduction_maximumf_single _ _ _ _ _ _).trans ?_)
  show (Finset.univ : Finset (Fin 128)).fold max (Ideal.ofBits .bf16 0xFF80#16) _ = _
  rw [bottom_pattern]
  refine fold_blockMax fun k => ?_
  show max (v (reduces_rows.lift (ix1 q) k)) (-v (reduces_rows.lift (ix1 q) k)) = _
  rw [lift_rows, hv]

theorem rowTopHalf_apply (hb : FTy.bits .bf16 < FTy.bits .f32) {v : FVec Ideal (M2 128 128) .bf16} {r c : ℕ} (hv : TileIs v V r c)
    (p : Fin 128) : rowTopHalf hb v (ix2 p (0 : Fin 1)) = rowMax V (128 * r + p.val) c := by
  unfold rowTopHalf
  refine (col_cast _ p).trans ((Ideal.multiReduction_maximumf_single _ _ _ _ _ _).trans ?_)
  refine fold_blockMax fun k => ?_
  show max (v (reduces_cols.lift (ix1 p) k)) (-v (reduces_cols.lift (ix1 p) k)) = _
  rw [lift_cols, hv]

/-- A row repeated, at an index. -/
theorem spreadRow_apply {φ : FTy} (x : FVec Ideal (M2 1 128) φ) (p q : Fin 128) :
    broadcastTo (M2 128 128) x (row_broadcasts 128 128) (ix2 p q) = x (ix2 (0 : Fin 1) q) :=
  broadcastTo_apply _ _ (ix2 p q) (ix2 (0 : Fin 1) q) (fun c => by fin_cases c <;> rfl)
/-- A column repeated, at an index. -/
theorem spreadCol_apply {φ : FTy} (x : FVec Ideal (M2 128 1) φ) (p q : Fin 128) :
    broadcastTo (M2 128 128) x (col_broadcasts 128 128) (ix2 p q) = x (ix2 p (0 : Fin 1)) :=
  broadcastTo_apply _ _ (ix2 p q) (ix2 p (0 : Fin 1)) (fun c => by fin_cases c <;> rfl)

/-- The code of an entry of a tile, whose column's greatest absolute value is `a`. -/
theorem colCode_of {v : (M2 128 128).Idx → EReal} {r c : ℕ} (hv : TileIs v V r c) (p q : Fin 128) :
    codeS (v (ix2 p q)) (colMax V r (128 * c + q.val)) = colCode V (128 * r + p.val) (128 * c + q.val) := by
  unfold colCode
  rw [hv, show (128 * r + p.val) / 128 = r by omega]
/-- The code of an entry of a tile along its row. -/
theorem rowCode_of {v : (M2 128 128).Idx → EReal} {r c : ℕ} (hv : TileIs v V r c) (p q : Fin 128) :
    codeS (v (ix2 p q)) (rowMax V (128 * r + p.val) c) = rowCode V (128 * r + p.val) (128 * c + q.val) := by
  unfold rowCode
  rw [hv, show (128 * c + q.val) / 128 = c by omega]

theorem colCode_tile (h9 : FTy.bits .fp8e5m2 < FTy.bits .f32) {v : FVec Ideal (M2 128 128) .f32} {r c : ℕ} (hv : TileIs v V r c)
    (p q : Fin 128) : encode v (broadcastTo (M2 128 128) (down (colTop v)) (row_broadcasts 128 128)) h9 (ix2 p q)
      = colCode V (128 * r + p.val) (128 * c + q.val) := by
  refine (encode_apply _ _ _ _ (colMax V r (128 * c + q.val)) ?_).trans (colCode_of hv p q)
  rw [spreadRow_apply, down_apply, colTop_apply hv]

theorem rowCode_tile (h9 : FTy.bits .fp8e5m2 < FTy.bits .f32) {v : FVec Ideal (M2 128 128) .f32} {r c : ℕ} (hv : TileIs v V r c)
    (p q : Fin 128) : encode v (broadcastTo (M2 128 128) (down (rowTop v)) (col_broadcasts 128 128)) h9 (ix2 p q)
      = rowCode V (128 * r + p.val) (128 * c + q.val) := by
  refine (encode_apply _ _ _ _ (rowMax V (128 * r + p.val) c) ?_).trans (rowCode_of hv p q)
  rw [spreadCol_apply, down_apply, rowTop_apply hv]

theorem colCodeHalf_tile (h8 : FTy.bits .fp8e5m2 < FTy.bits .bf16) (hb : FTy.bits .bf16 < FTy.bits .f32)
    {v : FVec Ideal (M2 128 128) .bf16} {r c : ℕ} (hv : TileIs v V r c) (p q : Fin 128) :
    encodeHalf v (broadcastTo (M2 128 128) (truncf .bf16 (down (colTopHalf hb v)) hb) (row_broadcasts 128 128)) h8 (ix2 p q)
      = colCode V (128 * r + p.val) (128 * c + q.val) := by
  refine (encodeHalf_apply _ _ _ _ (colMax V r (128 * c + q.val)) ?_).trans (colCode_of hv p q)
  rw [spreadRow_apply, truncf_apply, down_apply, colTopHalf_apply hb hv]

theorem colScale_tile {v : FVec Ideal (M2 128 128) .f32} {r c : ℕ} (hv : TileIs v V r c) (q : Fin 128) :
    shapeCast (M3 1 1 128) (up (colTop v)) casts_plane (at3 (0 : Fin 1) (0 : Fin 1) q) = colScale V r (128 * c + q.val) := by
  refine (plane_cast _ q).trans ?_
  rw [up_apply, colTop_apply hv]; rfl

theorem colScaleHalf_tile (hb : FTy.bits .bf16 < FTy.bits .f32) {v : FVec Ideal (M2 128 128) .bf16} {r c : ℕ} (hv : TileIs v V r c)
    (q : Fin 128) : shapeCast (M3 1 1 128) (up (colTopHalf hb v)) casts_plane (at3 (0 : Fin 1) (0 : Fin 1) q)
      = colScale V r (128 * c + q.val) := by
  refine (plane_cast _ q).trans ?_
  rw [up_apply, colTopHalf_apply hb hv]; rfl

/-! ### Columns gathered one after another -/

theorem setLane_apply (b : ℕ) (hb : b < 128) (v : FVec Ideal (M2 128 1) .f32) (m : FVec Ideal (M2 128 128) .f32) (p l : Fin 128) :
    setLane b v m (ix2 p l) = if l.val = b then v (ix2 p (0 : Fin 1)) else m (ix2 p l) := by
  have hc : cmpi .eq lane (broadcast (M2 128 128) (BitVec.ofNat 32 b)) (ix2 p l) = if l.val = b then 1#1 else 0#1 := by
    show BitVec.ofBool (BitVec.ofNat 32 (0 * 128 + l.val) == BitVec.ofNat 32 b) = _
    have hl : l.val < 128 := l.isLt
    by_cases h : l.val = b
    · rw [if_pos h, h, Nat.zero_mul, Nat.zero_add, beq_self_eq_true]; rfl
    · rw [if_neg h, beq_eq_false_iff_ne.2]
      · rfl
      · intro he
        have := congrArg BitVec.toNat he
        rw [BitVec.toNat_ofNat, BitVec.toNat_ofNat] at this
        omega
  unfold setLane
  rw [select_apply, hc, shapeCast_self, spreadCol_apply]
  by_cases h : l.val = b
  · rw [if_pos h, if_pos h]; rfl
  · rw [if_neg h, if_neg h]; rfl

theorem setLanes_apply (N : ℕ) (σ : Fin N → ℕ) (hσ : ∀ i, σ i < 128) (hinj : ∀ i j, σ i = σ j → i = j)
    (v : Fin N → FVec Ideal (M2 128 1) .f32) (p l : Fin 128) (k : Fin N) (hl : l.val = σ k) :
    ∀ (n : ℕ) (hn : n ≤ N), k.val < n → setLanes N σ v n hn (ix2 p l) = v k (ix2 p (0 : Fin 1)) := by
  intro n
  induction n with
  | zero => exact fun _ h => absurd h (Nat.not_lt_zero _)
  | succ n ih =>
    intro hn hk
    refine (setLane_apply (σ ⟨n, hn⟩) (hσ _) (v ⟨n, hn⟩) (setLanes N σ v n (Nat.le_of_succ_le hn)) p l).trans ?_
    by_cases h : l.val = σ ⟨n, hn⟩
    · rw [if_pos h, hinj k ⟨n, hn⟩ (hl.symm.trans h)]
    · rw [if_neg h]
      refine ih _ (lt_of_le_of_ne (Nat.le_of_lt_succ hk) fun he => h ?_)
      rw [hl]; exact congrArg σ (Fin.ext he)

theorem laneColumn_apply (m : FVec Ideal (M2 128 128) .bf16) (j : ℕ) (h : j < 128) (p q : Fin 128) :
    laneColumn m j h (ix2 p q) = m (ix2 p ⟨j, h⟩) := by
  unfold laneColumn
  rw [spreadCol_apply, shapeCast_self]
  exact extractStridedSlice_apply (s := M2 128 128) (t := M2 128 1) _ _ _ (ix2 p (0 : Fin 1)) (ix2 p ⟨j, h⟩) (fun c => by
    fin_cases c
    · exact (Nat.zero_add _).symm
    · rfl)

/-! ### The blocks -/

theorem tileOf_is {φ : FTy} {A B : ℕ} (x : (M2 A B).Idx → Ideal φ) (r c : ℕ) (hr : 128 * r + 128 ≤ A) (hc : 128 * c + 128 ≤ B) :
    TileIs (tileOf x (128 * r) (128 * c) hr hc) (nat2 x) r c := by
  intro p q
  rw [nat2_of x _ _ (by omega) (by omega)]
  refine congrArg x (funext fun a => Fin.ext ?_)
  rw [Rect.idx_unit_val]
  fin_cases a <;> rfl

variable (h8 : FTy.bits .fp8e5m2 < FTy.bits .bf16) (h9 : FTy.bits .fp8e5m2 < FTy.bits .f32) (hw : FTy.bits .fp8e4m3 < FTy.bits .bf16)
  (hb : FTy.bits .bf16 < FTy.bits .f32)
  (x : (M2 256 4096).Idx → Ideal .bf16) (g u : (M2 256 3456).Idx → Ideal .bf16)
  (w : (M2 3456 4096).Idx → Ideal .fp8e4m3) (ws : (M2 27 4096).Idx → Ideal .f32)

theorem dyTile_is (r : Fin 2) (b : Fin 32) : TileIs (dyTile x r b) (nat2 x) r.val b.val :=
  tileOf_is x r.val b.val (by omega) (by omega)

/-- Of 2 × 32 tiles, written in order and listed from the last to the first, one holds row `a` and column `d`. -/
theorem tile_of (a : Fin 256) (d : Fin 4096) : ∃ k : Fin 64,
    (128 * ((63 - k.val) / 32) ≤ a.val ∧ a.val < 128 * ((63 - k.val) / 32) + 128) ∧
    (128 * ((63 - k.val) % 32) ≤ d.val ∧ d.val < 128 * ((63 - k.val) % 32) + 128) := by
  have h1 : (63 - (63 - (32 * (a.val / 128) + d.val / 128))) / 32 = a.val / 128 := by omega
  have h2 : (63 - (63 - (32 * (a.val / 128) + d.val / 128))) % 32 = d.val / 128 := by omega
  refine ⟨⟨63 - (32 * (a.val / 128) + d.val / 128), by omega⟩, ⟨?_, ?_⟩, ?_, ?_⟩
  · show 128 * ((63 - (63 - (32 * (a.val / 128) + d.val / 128))) / 32) ≤ a.val; rw [h1]; omega
  · show a.val < 128 * ((63 - (63 - (32 * (a.val / 128) + d.val / 128))) / 32) + 128; rw [h1]; omega
  · show 128 * ((63 - (63 - (32 * (a.val / 128) + d.val / 128))) % 32) ≤ d.val; rw [h2]; omega
  · show d.val < 128 * ((63 - (63 - (32 * (a.val / 128) + d.val / 128))) % 32) + 128; rw [h2]; omega

theorem dyColCodes_apply (a : Fin 256) (d : Fin 4096) : dyColCodes h8 hb x (ix2 a d) = colCode (nat2 x) a.val d.val := by
  unfold dyColCodes
  refine canon_grid (Val := Elt Ideal) (e := .fp8e5m2) (fun k : Fin 64 => 128 * ((63 - k.val) / 32)) (fun k => 128 * ((63 - k.val) % 32)) _ _ (colCode (nat2 x))
    (fun k p q => ?_) a d (tile_of a d)
  exact colCodeHalf_tile h8 hb (dyTile_is x ⟨(63 - k.val) / 32, by omega⟩ ⟨(63 - k.val) % 32, by omega⟩) p q

theorem dyColScales_apply (b : Fin 2) (d : Fin 4096) : dyColScales hb x (at3 (0 : Fin 1) b d) = colScale (nat2 x) b.val d.val := by
  unfold dyColScales
  refine canon_rows (Val := Elt Ideal) (e := .f32) (fun k : Fin 64 => (63 - k.val) / 32) (fun k => 128 * ((63 - k.val) % 32)) _ _ (colScale (nat2 x))
    (fun k q => ?_) b d ?_
  · exact colScaleHalf_tile hb (dyTile_is x ⟨(63 - k.val) / 32, by omega⟩ ⟨(63 - k.val) % 32, by omega⟩) q
  · obtain ⟨k, h0, h1⟩ := tile_of ⟨128 * b.val, by omega⟩ d
    have h0' : 128 * ((63 - k.val) / 32) ≤ 128 * b.val ∧ 128 * b.val < 128 * ((63 - k.val) / 32) + 128 := h0
    exact ⟨k, by omega, h1⟩

theorem dyRowTops_apply (r : Fin 2) (p l : Fin 128) (b : Fin 32) (hl : l.val = b.val) :
    dyRowTops hb x r (ix2 p l) = rowMax (nat2 x) (128 * r.val + p.val) b.val := by
  unfold dyRowTops
  rw [setLanes_apply 32 (fun b => b.val) (fun i => by show i.val < 128; omega) (fun i j h => Fin.ext h) _ p l b hl 32 _ b.isLt]
  exact rowTopHalf_apply hb (dyTile_is x r b) p

theorem dyRowScales_apply (a : Fin 256) (b : Fin 32) : dyRowScales hb x (ix2 a b) = rowScale (nat2 x) a.val b.val := by
  unfold dyRowScales
  refine canon_grid (Val := Elt Ideal) (e := .f32) (fun k : Fin 2 => 128 * (1 - k.val)) (fun _ => 0) _ _ (rowScale (nat2 x)) (fun k p q => ?_) a b ?_
  · refine (extractStridedSlice_apply (s := M2 128 128) (t := M2 128 32) _ _ _ (ix2 p q) (ix2 p ⟨q.val, by omega⟩) (fun c => by
      fin_cases c
      · exact (Nat.zero_add _).symm
      · exact (Nat.zero_add _).symm)).trans ?_
    rw [up_apply, dyRowTops_apply hb x ⟨1 - k.val, by omega⟩ p ⟨q.val, by omega⟩ q rfl, Nat.zero_add]; rfl
  · have h1 : 1 - (1 - a.val / 128) = a.val / 128 := by omega
    refine ⟨⟨1 - a.val / 128, by omega⟩, ⟨?_, ?_⟩, Nat.zero_le _, by omega⟩
    · show 128 * (1 - (1 - a.val / 128)) ≤ a.val; rw [h1]; omega
    · show a.val < 128 * (1 - (1 - a.val / 128)) + 128; rw [h1]; omega

theorem dyRowTile_apply (r : Fin 2) (b : Fin 32) (p q : Fin 128) :
    dyRowTile h8 hb x r b (ix2 p q) = rowCode (nat2 x) (128 * r.val + p.val) (128 * b.val + q.val) := by
  unfold dyRowTile
  refine (encodeHalf_apply _ _ _ _ (rowMax (nat2 x) (128 * r.val + p.val) b.val) ?_).trans (rowCode_of (dyTile_is x r b) p q)
  rw [laneColumn_apply, truncf_apply, down_apply, dyRowTops_apply hb x r p ⟨b.val, by omega⟩ b rfl]

theorem dyRowCodes_apply (a : Fin 256) (d : Fin 4096) : dyRowCodes h8 hb x (ix2 a d) = rowCode (nat2 x) a.val d.val := by
  unfold dyRowCodes
  refine canon_grid (Val := Elt Ideal) (e := .fp8e5m2) (fun k : Fin 64 => 128 * ((63 - k.val) / 32)) (fun k => 128 * ((63 - k.val) % 32)) _ _ (rowCode (nat2 x))
    (fun k p q => ?_) a d (tile_of a d)
  exact dyRowTile_apply h8 hb x ⟨(63 - k.val) / 32, by omega⟩ ⟨(63 - k.val) % 32, by omega⟩ p q

theorem leftTile_apply (r : Fin 2) (b : Fin 32) (p q : Fin 128) : leftTile h8 hb x r b (ix2 p q)
    = rowCode (nat2 x) (128 * r.val + p.val) (128 * b.val + q.val)
      * rowScale (nat2 x) (128 * r.val + p.val) ((128 * b.val + q.val) / 128) := by
  unfold leftTile
  rw [mulf_apply, extf_apply, dyRowTile_apply, laneColumn_apply, truncf_apply, up_apply,
    dyRowTops_apply hb x r p ⟨b.val, by omega⟩ b rfl, show (128 * b.val + q.val) / 128 = b.val by omega]
  rfl

theorem leftArr_apply (a : Fin 256) (k : Fin 4096) :
    leftArr h8 hb x (ix2 a k) = rowCode (nat2 x) a.val k.val * rowScale (nat2 x) a.val (k.val / 128) := by
  have hi : (Rect.unit (s := M2 256 4096) ![0, 0] ![256, 4096] (inb2 (by omega) (by omega))).toLoadRect.idx (ix2 a k) = ix2 a k := by
    funext c; apply Fin.ext; fin_cases c
    · show 0 + 1 * a.val = a.val; omega
    · show 0 + 1 * k.val = k.val; omega
  unfold leftArr
  rw [hi]
  refine canon_grid (Val := Elt Ideal) (e := .bf16) (fun k : Fin 64 => 128 * ((63 - k.val) / 32)) (fun k => 128 * ((63 - k.val) % 32)) _ _
    (fun a k => rowCode (nat2 x) a k * rowScale (nat2 x) a (k / 128)) (fun k p q => ?_) a k (tile_of a k)
  rw [shapeCast_self]
  exact leftTile_apply h8 hb x ⟨(63 - k.val) / 32, by omega⟩ ⟨(63 - k.val) % 32, by omega⟩ p q

theorem rightTile_apply (n : ℕ) (hn : n < 27) (p : Fin 128) (k : Fin 4096) (f : ℕ) (hf : f = 128 * n + p.val) :
    rightTile hw hb w ws n hn (ix2 p k) = nat2 w f k.val * nat2 ws (f / 128) k.val := by
  unfold rightTile
  rw [mulf_apply, extf_apply, show f / 128 = n by omega, nat2_of w f k.val (by omega) k.isLt, nat2_of ws n k.val hn k.isLt]
  congr 1
  · refine congrArg w (funext fun a => Fin.ext ?_)
    rw [Rect.idx_unit_val]
    fin_cases a
    · exact hf.symm
    · exact Nat.zero_add _
  · rw [broadcastTo_apply _ _ (ix2 p k) (ix2 (0 : Fin 1) k) (fun a => by fin_cases a <;> rfl), truncf_apply, shapeCast_self]
    refine congrArg ws (funext fun a => Fin.ext ?_)
    rw [Rect.idx_unit_val]
    fin_cases a
    · rfl
    · exact Nat.zero_add _

theorem daChunk_apply (c : ℕ) (hc : c < 13) (a q : Fin 256) :
    daChunk h8 hw hb x w ws c hc (ix2 a q) = dA (nat2 x) (nat2 w) (nat2 ws) a.val (256 * c + q.val) := by
  unfold daChunk dA
  show FloatOps.matmul (DotDims.transposedRhs 256 4096 256) none (leftArr h8 hb x) _ (constant (M2 256 256) .f32 0x00000000#32) (ix2 a q) = _
  rw [Ideal.matmul_transposedRhs_apply]
  show Ideal.ofBits .f32 0x00000000#32 + _ = _
  rw [Ideal.ofBits_zero_f32, zero_add]
  have hm : q.val % 128 < 128 := Nat.mod_lt _ (by decide)
  have hd : q.val / 128 < 2 := by omega
  refine Finset.sum_congr rfl fun k _ => ?_
  rw [leftArr_apply,
    concatenate_ofFn_apply (t := M2 256 4096) 0 (fun b : Fin 2 => rightTile hw hb w ws (2 * c + b.val) (by omega)) _ rfl 128 rfl
      (ix2 q k) ⟨q.val / 128, hd⟩ rfl (ix2 ⟨q.val % 128, hm⟩ k) rfl (fun b hb' => by
        fin_cases b
        · exact absurd rfl hb'
        · rfl),
    rightTile_apply hw hb w ws _ _ _ k (256 * c + q.val) (by
      show 256 * c + q.val = 128 * (2 * c + q.val / 128) + q.val % 128; omega)]

theorem daLast_apply (a : Fin 256) (q : Fin 128) :
    daLast h8 hw hb x w ws (ix2 a q) = dA (nat2 x) (nat2 w) (nat2 ws) a.val (128 * 26 + q.val) := by
  unfold daLast dA
  show FloatOps.matmul (DotDims.transposedRhs 256 4096 128) none (leftArr h8 hb x) _ (constant (M2 256 128) .f32 0x00000000#32) (ix2 a q) = _
  rw [Ideal.matmul_transposedRhs_apply]
  show Ideal.ofBits .f32 0x00000000#32 + _ = _
  rw [Ideal.ofBits_zero_f32, zero_add]
  exact Finset.sum_congr rfl fun k _ => by rw [leftArr_apply, rightTile_apply hw hb w ws _ _ _ k _ rfl]

theorem daTile_is (r : Fin 2) (f : Fin 27) : TileIs (daTile h8 hw hb x w ws r f) (dA (nat2 x) (nat2 w) (nat2 ws)) r.val f.val := by
  intro p q
  unfold daTile
  split
  · refine (extractStridedSlice_apply (s := M2 256 256) (t := M2 128 128) _ _ _ (ix2 p q)
      (ix2 ⟨128 * r.val + p.val, by omega⟩ ⟨128 * (f.val % 2) + q.val, by omega⟩) (fun c => by fin_cases c <;> rfl)).trans ?_
    rw [daChunk_apply]
    exact congrArg (dA (nat2 x) (nat2 w) (nat2 ws) _) (by show 256 * (f.val / 2) + (128 * (f.val % 2) + q.val) = _; omega)
  · refine (extractStridedSlice_apply (s := M2 256 128) (t := M2 128 128) _ _ _ (ix2 p q)
      (ix2 ⟨128 * r.val + p.val, by omega⟩ q) (fun c => by
        fin_cases c
        · rfl
        · exact (Nat.zero_add _).symm)).trans ?_
    rw [daLast_apply]
    exact congrArg (dA (nat2 x) (nat2 w) (nat2 ws) _) (by omega)

/-- The gradient of the activation, of one block's inputs. -/
def hOf (x : (M2 256 4096).Idx → Ideal .bf16) (g u : (M2 256 3456).Idx → Ideal .bf16)
    (w : (M2 3456 4096).Idx → Ideal .fp8e4m3) (ws : (M2 27 4096).Idx → Ideal .f32) : ℕ → ℕ → EReal :=
  dH (nat2 x) (nat2 g) (nat2 u) (nat2 w) (nat2 ws)

theorem hTile_is (r : Fin 2) (f : Fin 27) (n : ℕ) (hn : n < 2) :
    TileIs (hTile h8 hw hb x g u w ws r f n) (hOf x g u w ws) r.val (27 * n + f.val) := by
  intro p q
  have hd := daTile_is h8 hw hb x w ws r f p q
  have hg := tileOf_is g r.val f.val (by omega) (by omega) p q
  have hu := tileOf_is u r.val f.val (by omega) (by omega) p q
  unfold hTile hOf dH
  by_cases h : n = 0
  · subst h
    rw [if_pos rfl, if_pos (by omega), show 27 * 0 + f.val = f.val by omega]
    rw [← hd, ← hg, ← hu]
    rfl
  · rw [if_neg h, if_neg (by omega), show 128 * (27 * n + f.val) + q.val - 3456 = 128 * f.val + q.val by omega]
    rw [← hd, ← hg]
    rfl

/-- Writing number `4 f + 2 i + s` is the tile of row block `i`, column block `f` and part `s`. -/
theorem hTile_number (f i s : ℕ) (hi : i < 2) (hs : s < 2) :
    (4 * f + 2 * i + s) / 2 % 2 = i ∧ (4 * f + 2 * i + s) % 2 = s ∧ (4 * f + 2 * i + s) / 4 = f := by omega

/-- Of the 108 tiles of the gradient's block, one holds row `a` and column `d`. -/
theorem hTile_of (a : Fin 256) (d : Fin 6912) : ∃ k : Fin 108,
    (128 * ((107 - k.val) / 2 % 2) ≤ a.val ∧ a.val < 128 * ((107 - k.val) / 2 % 2) + 128) ∧
    (128 * (27 * ((107 - k.val) % 2) + (107 - k.val) / 4) ≤ d.val ∧
      d.val < 128 * (27 * ((107 - k.val) % 2) + (107 - k.val) / 4) + 128) := by
  have ha : a.val < 256 := a.isLt
  have hd : d.val < 6912 := d.isLt
  obtain ⟨i, hi⟩ : ∃ i, i = a.val / 128 := ⟨_, rfl⟩
  obtain ⟨f, hf⟩ : ∃ f, f = d.val / 128 % 27 := ⟨_, rfl⟩
  obtain ⟨s, hs⟩ : ∃ s, s = d.val / 128 / 27 := ⟨_, rfl⟩
  have hi2 : i < 2 := by omega
  have hs2 : s < 2 := by omega
  have hf2 : f < 27 := by omega
  have e : 107 - (107 - (4 * f + 2 * i + s)) = 4 * f + 2 * i + s := by omega
  obtain ⟨h1, h2, h3⟩ := hTile_number f i s hi2 hs2
  refine ⟨⟨107 - (4 * f + 2 * i + s), by omega⟩, ?_⟩
  show (128 * ((107 - (107 - (4 * f + 2 * i + s))) / 2 % 2) ≤ a.val ∧ a.val < 128 * ((107 - (107 - (4 * f + 2 * i + s))) / 2 % 2) + 128) ∧
    (128 * (27 * ((107 - (107 - (4 * f + 2 * i + s))) % 2) + (107 - (107 - (4 * f + 2 * i + s))) / 4) ≤ d.val ∧
      d.val < 128 * (27 * ((107 - (107 - (4 * f + 2 * i + s))) % 2) + (107 - (107 - (4 * f + 2 * i + s))) / 4) + 128)
  rw [e, h1, h2, h3]
  omega

theorem hColCodes_apply (a : Fin 256) (d : Fin 6912) :
    hColCodes h8 h9 hw hb x g u w ws (ix2 a d) = colCode (hOf x g u w ws) a.val d.val := by
  unfold hColCodes
  refine canon_grid (Val := Elt Ideal) (e := .fp8e5m2) (fun k : Fin 108 => 128 * ((107 - k.val) / 2 % 2)) (fun k => 128 * (27 * ((107 - k.val) % 2) + (107 - k.val) / 4)) _ _
    (colCode (hOf x g u w ws)) (fun k p q => ?_) a d (hTile_of a d)
  exact colCode_tile h9 (hTile_is h8 hw hb x g u w ws ⟨(107 - k.val) / 2 % 2, by omega⟩ ⟨(107 - k.val) / 4, by omega⟩ ((107 - k.val) % 2)
    (by omega)) p q

theorem hRowCodes_apply (a : Fin 256) (d : Fin 6912) :
    hRowCodes h8 h9 hw hb x g u w ws (ix2 a d) = rowCode (hOf x g u w ws) a.val d.val := by
  unfold hRowCodes
  refine canon_grid (Val := Elt Ideal) (e := .fp8e5m2) (fun k : Fin 108 => 128 * ((107 - k.val) / 2 % 2)) (fun k => 128 * (27 * ((107 - k.val) % 2) + (107 - k.val) / 4)) _ _
    (rowCode (hOf x g u w ws)) (fun k p q => ?_) a d (hTile_of a d)
  exact rowCode_tile h9 (hTile_is h8 hw hb x g u w ws ⟨(107 - k.val) / 2 % 2, by omega⟩ ⟨(107 - k.val) / 4, by omega⟩ ((107 - k.val) % 2)
    (by omega)) p q

theorem hColScales_apply (b : Fin 2) (d : Fin 6912) :
    hColScales h8 hw hb x g u w ws (at3 (0 : Fin 1) b d) = colScale (hOf x g u w ws) b.val d.val := by
  unfold hColScales
  refine canon_rows (Val := Elt Ideal) (e := .f32) (fun k : Fin 108 => (107 - k.val) / 2 % 2) (fun k => 128 * (27 * ((107 - k.val) % 2) + (107 - k.val) / 4)) _ _
    (colScale (hOf x g u w ws)) (fun k q => ?_) b d ?_
  · exact colScale_tile (hTile_is h8 hw hb x g u w ws ⟨(107 - k.val) / 2 % 2, by omega⟩ ⟨(107 - k.val) / 4, by omega⟩ ((107 - k.val) % 2)
      (by omega)) q
  · obtain ⟨k, h0, h1⟩ := hTile_of ⟨128 * b.val, by omega⟩ d
    have h0' : 128 * ((107 - k.val) / 2 % 2) ≤ 128 * b.val ∧ 128 * b.val < 128 * ((107 - k.val) / 2 % 2) + 128 := h0
    exact ⟨k, by omega, h1⟩

theorem hRowUps_apply (r : Fin 2) (p l : Fin 128) (hl : l.val < 54) :
    hRowUps h8 hw hb x g u w ws r (ix2 p l) = rowScale (hOf x g u w ws) (128 * r.val + p.val) l.val := by
  unfold hRowUps
  have hk : 2 * (l.val % 27) + l.val / 27 < 54 := by omega
  have e1 : (2 * (l.val % 27) + l.val / 27) % 2 = l.val / 27 := by omega
  have e2 : (2 * (l.val % 27) + l.val / 27) / 2 = l.val % 27 := by omega
  have e3 : 27 * (l.val / 27) + l.val % 27 = l.val := by omega
  rw [setLanes_apply 54 (fun n => 27 * (n.val % 2) + n.val / 2) (fun i => by show 27 * (i.val % 2) + i.val / 2 < 128; omega)
    (fun i j h => Fin.ext (by have h' : 27 * (i.val % 2) + i.val / 2 = 27 * (j.val % 2) + j.val / 2 := h; omega)) _ p l
    ⟨2 * (l.val % 27) + l.val / 27, hk⟩ (by
      show l.val = 27 * ((2 * (l.val % 27) + l.val / 27) % 2) + (2 * (l.val % 27) + l.val / 27) / 2; rw [e1, e2, e3]) 54 _ hk]
  rw [up_apply, rowTop_apply (hTile_is h8 hw hb x g u w ws r ⟨(2 * (l.val % 27) + l.val / 27) / 2, by omega⟩
    ((2 * (l.val % 27) + l.val / 27) % 2) (by omega)) p]
  unfold rowScale
  rw [show 27 * ((2 * (l.val % 27) + l.val / 27) % 2) + (2 * (l.val % 27) + l.val / 27) / 2 = l.val by rw [e1, e2, e3]]

theorem hRowScales_apply (a : Fin 256) (b : Fin 54) :
    hRowScales h8 hw hb x g u w ws (ix2 a b) = rowScale (hOf x g u w ws) a.val b.val := by
  unfold hRowScales
  refine canon_grid (Val := Elt Ideal) (e := .f32) (fun k : Fin 2 => 128 * (1 - k.val)) (fun _ => 0) _ _ (rowScale (hOf x g u w ws)) (fun k p q => ?_) a b ?_
  · refine (extractStridedSlice_apply (s := M2 128 128) (t := M2 128 54) _ _ _ (ix2 p q) (ix2 p ⟨q.val, by omega⟩) (fun c => by
      fin_cases c
      · exact (Nat.zero_add _).symm
      · exact (Nat.zero_add _).symm)).trans ?_
    refine (hRowUps_apply h8 hw hb x g u w ws ⟨1 - k.val, by omega⟩ p ⟨q.val, by omega⟩ q.isLt).trans ?_
    rw [Nat.zero_add]
  · have h1 : 1 - (1 - a.val / 128) = a.val / 128 := by omega
    refine ⟨⟨1 - a.val / 128, by omega⟩, ⟨?_, ?_⟩, Nat.zero_le _, by omega⟩
    · show 128 * (1 - (1 - a.val / 128)) ≤ a.val; rw [h1]; omega
    · show a.val < 128 * (1 - (1 - a.val / 128)) + 128; rw [h1]; omega

end Cert.Proof.Dh

end
-- ==== Proof.DhKernel.lean ====
/-
  Hand-written. The gradient kernel's eight result arrays after the run: 24 grid points write 256 rows each, and every array holds
  the function of natural-number coordinates that DhSpec.lean names, of the whole argument arrays.
-/
module

public import proofs.«01_k».proof.Proof.Gen.DhIdeal.Value
public import proofs.«01_k».proof.Proof.DhOut
public import proofs.«01_k».proof.Proof.DhValue

@[expose] public section

set_option maxRecDepth 16384

noncomputable section

namespace Cert.Proof.DhKernel

open Idealize.ShloMosaic hiding ix2 eq_ix2
open Idealize.ShloMosaic.ValueIdx (ix2 eq_ix2)
open Idealize.ShloMosaic.TcCoe Idealize.SL.Sem Cert.DhIdeal Cert.DhIdeal.Gen
open Cert.Proof.Dh (nat2 nat2_of rowCode rowScale colCode colScale hOf hAll)

/-- The block indices of the thirteen windows at a grid point. -/
theorem index_eq : ∀ t : Fin grid0.N,
    win0_0.index t = ![(grid0.coords t 0).val, 0] ∧ win0_1.index t = ![(grid0.coords t 0).val, 0] ∧
    win0_2.index t = ![(grid0.coords t 0).val, 1] ∧ win0_3.index t = ![0, 0] ∧ win0_4.index t = ![0, 0] ∧
    win0_5.index t = ![(grid0.coords t 0).val, 0] ∧ win0_6.index t = ![(grid0.coords t 0).val, 0] ∧
    win0_7.index t = ![(grid0.coords t 0).val, 0] ∧ win0_8.index t = ![(grid0.coords t 0).val, 0, 0] ∧
    win0_9.index t = ![(grid0.coords t 0).val, 0] ∧ win0_10.index t = ![(grid0.coords t 0).val, 0] ∧
    win0_11.index t = ![(grid0.coords t 0).val, 0] ∧ win0_12.index t = ![(grid0.coords t 0).val, 0, 0] := by decide +kernel

variable (m : (ℓ : Loc nD τ sig) → Buf (Elt Ideal) ℓ) (c : Dev nD)

/-- The argument `dy`. -/
abbrev dyOf : Vec Ideal S6144x4096 .bf16 := m ((c : Thread nD τ).loc main_arg0)
/-- The argument that holds the activation's input. -/
abbrev guOf : Vec Ideal S6144x6912 .bf16 := m ((c : Thread nD τ).loc main_arg1)
/-- The weights' codes. -/
abbrev wOf : Vec Ideal S3456x4096 .fp8e4m3 := m ((c : Thread nD τ).loc main_arg2)
/-- Their scales. -/
abbrev wsOf : Vec Ideal S27x32 .f32 := m ((c : Thread nD τ).loc main_arg3)

/-- The gradient of the activation, of the arguments. -/
abbrev hhOf : ℕ → ℕ → EReal := hAll (dyOf m c) (guOf m c) (wOf m c) (wsOf m c)

/-- The scales of the weights that the kernel stages: every scale repeated over its 128 columns. -/
theorem V_scales : V m c main_v1 =
    shapeCast S27x4096 (broadcastInDim S27x32x128 ![0, 1] bcast_S27x32_S27x32x128_0_1 (wsOf m c)) shapeCasts_S27x32x128_S27x4096 := by
  unfold_abbrev_sides
  after_results
  rfl

/-- A staged scale: row `b` and column `k` hold the scale of row block `b` and of the block of columns that `k` is in. -/
theorem scales_apply (x : Vec Ideal S27x32 .f32) (b : Fin 27) (k : Fin 4096) (d : Fin 32) (hd : d.val = k.val / 128) :
    shapeCast S27x4096 (broadcastInDim S27x32x128 ![0, 1] bcast_S27x32_S27x32x128_0_1 x) shapeCasts_S27x32x128_S27x4096 (ix2 b k)
      = x (ix2 b d) := by
  have hm : k.val % 128 < 128 := Nat.mod_lt _ (by decide)
  refine (shapeCast_apply (s := S27x32x128) (t := S27x4096) _ _ (ix2 b k) (Scaled.at3 b d ⟨k.val % 128, hm⟩) (by
    rw [Shape.rowMajor_val_three, Shape.rowMajor_val_two]
    show (b.val * 32 + d.val) * 128 + k.val % 128 = b.val * 4096 + k.val
    omega)).trans ?_
  exact broadcastInDim_apply _ _ _ _ (ix2 b d) (fun a => by fin_cases a <;> rfl)

/-- Every grid point is one of 24. -/
theorem coord_lt (t : Fin grid0.N) : (grid0.coords t 0).val < 24 := (grid0.coords t 0).isLt

/-- The block of `dy` at a grid point. -/
theorem dy_block (t : Fin grid0.N) (a : ℕ) (ha : a < 256) (d : ℕ) (hd : d < 4096) :
    nat2 (A := 256) (B := 4096) (iblk m c 0 t) a d = nat2 (A := 6144) (B := 4096) (dyOf m c) (256 * (grid0.coords t 0).val + a) d := by
  have ht := coord_lt t
  rw [nat2_of _ _ _ ha hd, nat2_of _ _ _ (by omega) hd]
  blk_ext [iblk, index_eq t, V_main_arg0] <;> omega

/-- The block of the gate's columns. -/
theorem g_block (t : Fin grid0.N) (a : ℕ) (ha : a < 256) (d : ℕ) (hd : d < 3456) :
    nat2 (A := 256) (B := 3456) (iblk m c 1 t) a d = nat2 (A := 6144) (B := 6912) (guOf m c) (256 * (grid0.coords t 0).val + a) d := by
  have ht := coord_lt t
  rw [nat2_of _ _ _ ha hd, nat2_of _ _ _ (by omega) (by omega)]
  blk_ext [iblk, index_eq t, V_main_arg1] <;> omega

/-- The block of the other columns. -/
theorem u_block (t : Fin grid0.N) (a : ℕ) (ha : a < 256) (d : ℕ) (hd : d < 3456) :
    nat2 (A := 256) (B := 3456) (iblk m c 2 t) a d
      = nat2 (A := 6144) (B := 6912) (guOf m c) (256 * (grid0.coords t 0).val + a) (3456 + d) := by
  have ht := coord_lt t
  rw [nat2_of _ _ _ ha hd, nat2_of _ _ _ (by omega) (by omega)]
  blk_ext [iblk, index_eq t, V_main_arg1] <;> omega

/-- The weights' codes, staged whole. -/
theorem w_block (t : Fin grid0.N) (f : ℕ) (hf : f < 3456) (k : ℕ) (hk : k < 4096) :
    nat2 (A := 3456) (B := 4096) (iblk m c 3 t) f k = nat2 (A := 3456) (B := 4096) (wOf m c) f k := by
  rw [nat2_of _ _ _ hf hk, nat2_of _ _ _ hf hk]
  blk_ext [iblk, index_eq t, V_main_arg2] <;> omega

/-- Their scales, staged whole. -/
theorem ws_block (t : Fin grid0.N) (f : ℕ) (hf : f < 27) (k : ℕ) (hk : k < 4096) :
    nat2 (A := 27) (B := 4096) (iblk m c 4 t) f k = nat2 (A := 27) (B := 32) (wsOf m c) f (k / 128) := by
  rw [nat2_of _ _ _ hf hk, nat2_of _ _ _ hf (by omega)]
  refine Eq.trans ?_ (scales_apply (wsOf m c) ⟨f, hf⟩ ⟨k, hk⟩ ⟨k / 128, by omega⟩ rfl)
  rw [← V_scales]
  blk_ext [iblk, index_eq t] <;> omega

/-- The block of the gradient of the activation. -/
theorem h_block (t : Fin grid0.N) (a : ℕ) (ha : a < 256) (j : ℕ) (hj : j < 6912) :
    hOf (iblk m c 0 t) (iblk m c 1 t) (iblk m c 2 t) (iblk m c 3 t) (iblk m c 4 t) a j = hhOf m c (256 * (grid0.coords t 0).val + a) j :=
  Dh.dH_shift (dy_block m c t) (g_block m c t) (u_block m c t) (w_block m c t) (ws_block m c t) a ha j hj

/-- An index of the only plane of a `1 × A × B` array. -/
theorem at_plane {A B : ℕ} (y : (Scaled.M3 1 A B).Idx) : y = Scaled.at3 (0 : Fin 1) (y 1) (y 2) := by
  have y0 : (y 0).val < 1 := (y 0).isLt
  funext x; apply Fin.ext
  fin_cases x
  · show (y 0).val = 0; omega
  · rfl
  · rfl

/-- The codes of `dy` along rows. -/
theorem final_5 : (dats m 0 c).arrAt 5 cfg0.N = fun y : S6144x4096.Idx => rowCode (nat2 (A := 6144) (B := 4096) (dyOf m c)) (y 0).val (y 1).val := by
  refine (dats m 0 c).arrAt_eq_of_covers 5 _ (by decide +kernel) fun t hf y => ?_
  blk_simp
  rw [after0_5]
  unfold outsAt0
  rw [out_eq_5]
  have hy0 : (y 0).val < 256 := (y 0).isLt
  have hy1 : (y 1).val < 4096 := (y 1).isLt
  have h0 : win0_5.index t 0 = (grid0.coords t 0).val := congrFun (index_eq t).2.2.2.2.2.1 0
  have h1 : win0_5.index t 1 = 0 := congrFun (index_eq t).2.2.2.2.2.1 1
  refine (congrArg _ (eq_ix2 (n0 := 256) (n1 := 4096) y)).trans ((Dh.dyRowCodes_apply _ _ _ (y 0) (y 1)).trans ?_)
  refine Eq.trans (Dh.rowCode_shift (dy_block m c t) 32 rfl _ _ hy0 hy1) ?_
  exact congrArg₂ (rowCode _) (by omega) (by omega)

/-- The scales of `dy` along rows. -/
theorem final_6 : (dats m 0 c).arrAt 6 cfg0.N = fun y : S6144x32.Idx => rowScale (nat2 (A := 6144) (B := 4096) (dyOf m c)) (y 0).val (y 1).val := by
  refine (dats m 0 c).arrAt_eq_of_covers 6 _ (by decide +kernel) fun t hf y => ?_
  blk_simp
  rw [after0_6]
  unfold outsAt0
  rw [out_eq_6]
  have hy0 : (y 0).val < 256 := (y 0).isLt
  have hy1 : (y 1).val < 32 := (y 1).isLt
  have h0 : win0_6.index t 0 = (grid0.coords t 0).val := congrFun (index_eq t).2.2.2.2.2.2.1 0
  have h1 : win0_6.index t 1 = 0 := congrFun (index_eq t).2.2.2.2.2.2.1 1
  refine (congrArg _ (eq_ix2 (n0 := 256) (n1 := 32) y)).trans ((Dh.dyRowScales_apply _ _ (y 0) (y 1)).trans ?_)
  refine Eq.trans (Dh.rowScale_shift (dy_block m c t) _ _ hy0 (by omega)) ?_
  exact congrArg₂ (rowScale _) (by omega) (by omega)

/-- The codes of `dy` along columns. -/
theorem final_7 : (dats m 0 c).arrAt 7 cfg0.N = fun y : S6144x4096.Idx => colCode (nat2 (A := 6144) (B := 4096) (dyOf m c)) (y 0).val (y 1).val := by
  refine (dats m 0 c).arrAt_eq_of_covers 7 _ (by decide +kernel) fun t hf y => ?_
  blk_simp
  rw [after0_7]
  unfold outsAt0
  rw [out_eq_7]
  have hy0 : (y 0).val < 256 := (y 0).isLt
  have hy1 : (y 1).val < 4096 := (y 1).isLt
  have h0 : win0_7.index t 0 = (grid0.coords t 0).val := congrFun (index_eq t).2.2.2.2.2.2.2.1 0
  have h1 : win0_7.index t 1 = 0 := congrFun (index_eq t).2.2.2.2.2.2.2.1 1
  refine (congrArg _ (eq_ix2 (n0 := 256) (n1 := 4096) y)).trans ((Dh.dyColCodes_apply _ _ _ (y 0) (y 1)).trans ?_)
  refine Eq.trans (Dh.colCode_shift (dy_block m c t) (2 * (grid0.coords t 0).val) 2 (by omega) rfl _ _ hy0 hy1) ?_
  exact congrArg₂ (colCode _) (by omega) (by omega)

/-- The scales of `dy` along columns. -/
theorem final_8 : (dats m 0 c).arrAt 8 cfg0.N
    = fun y : S24x2x4096.Idx => colScale (nat2 (A := 6144) (B := 4096) (dyOf m c)) (2 * (y 0).val + (y 1).val) (y 2).val := by
  refine (dats m 0 c).arrAt_eq_of_covers 8 _ (by decide +kernel) fun t hf y => ?_
  blk_simp
  rw [after0_8]
  unfold outsAt0
  rw [out_eq_8]
  have hy0 : (y 0).val < 1 := (y 0).isLt
  have hy1 : (y 1).val < 2 := (y 1).isLt
  have hy2 : (y 2).val < 4096 := (y 2).isLt
  have h0 : win0_8.index t 0 = (grid0.coords t 0).val := congrFun (index_eq t).2.2.2.2.2.2.2.2.1 0
  have h1 : win0_8.index t 1 = 0 := congrFun (index_eq t).2.2.2.2.2.2.2.2.1 1
  have h2 : win0_8.index t 2 = 0 := congrFun (index_eq t).2.2.2.2.2.2.2.2.1 2
  refine (congrArg _ (at_plane y)).trans ((Dh.dyColScales_apply _ _ (y 1) (y 2)).trans ?_)
  refine Eq.trans (Dh.colScale_shift (dy_block m c t) (2 * (grid0.coords t 0).val) (by omega) _ _ (by omega) hy2) ?_
  exact congrArg₂ (colScale _) (by omega) (by omega)

/-- The codes of the gradient along rows. -/
theorem final_9 : (dats m 0 c).arrAt 9 cfg0.N = fun y : S6144x6912.Idx => rowCode (hhOf m c) (y 0).val (y 1).val := by
  refine (dats m 0 c).arrAt_eq_of_covers 9 _ (by decide +kernel) fun t hf y => ?_
  blk_simp
  rw [after0_9]
  unfold outsAt0
  rw [out_eq_9]
  have hy0 : (y 0).val < 256 := (y 0).isLt
  have hy1 : (y 1).val < 6912 := (y 1).isLt
  have h0 : win0_9.index t 0 = (grid0.coords t 0).val := congrFun (index_eq t).2.2.2.2.2.2.2.2.2.1 0
  have h1 : win0_9.index t 1 = 0 := congrFun (index_eq t).2.2.2.2.2.2.2.2.2.1 1
  refine (congrArg _ (eq_ix2 (n0 := 256) (n1 := 6912) y)).trans ((Dh.hRowCodes_apply _ _ _ _ _ _ _ _ _ (y 0) (y 1)).trans ?_)
  refine Eq.trans (Dh.rowCode_shift (h_block m c t) 54 rfl _ _ hy0 hy1) ?_
  exact congrArg₂ (rowCode _) (by omega) (by omega)

/-- The scales of the gradient along rows. -/
theorem final_10 : (dats m 0 c).arrAt 10 cfg0.N = fun y : S6144x54.Idx => rowScale (hhOf m c) (y 0).val (y 1).val := by
  refine (dats m 0 c).arrAt_eq_of_covers 10 _ (by decide +kernel) fun t hf y => ?_
  blk_simp
  rw [after0_10]
  unfold outsAt0
  rw [out_eq_10]
  have hy0 : (y 0).val < 256 := (y 0).isLt
  have hy1 : (y 1).val < 54 := (y 1).isLt
  have h0 : win0_10.index t 0 = (grid0.coords t 0).val := congrFun (index_eq t).2.2.2.2.2.2.2.2.2.2.1 0
  have h1 : win0_10.index t 1 = 0 := congrFun (index_eq t).2.2.2.2.2.2.2.2.2.2.1 1
  refine (congrArg _ (eq_ix2 (n0 := 256) (n1 := 54) y)).trans ((Dh.hRowScales_apply _ _ _ _ _ _ _ _ (y 0) (y 1)).trans ?_)
  refine Eq.trans (Dh.rowScale_shift (h_block m c t) _ _ hy0 (by omega)) ?_
  exact congrArg₂ (rowScale _) (by omega) (by omega)

/-- The codes of the gradient along columns. -/
theorem final_11 : (dats m 0 c).arrAt 11 cfg0.N = fun y : S6144x6912.Idx => colCode (hhOf m c) (y 0).val (y 1).val := by
  refine (dats m 0 c).arrAt_eq_of_covers 11 _ (by decide +kernel) fun t hf y => ?_
  blk_simp
  rw [after0_11]
  unfold outsAt0
  rw [out_eq_11]
  have hy0 : (y 0).val < 256 := (y 0).isLt
  have hy1 : (y 1).val < 6912 := (y 1).isLt
  have h0 : win0_11.index t 0 = (grid0.coords t 0).val := congrFun (index_eq t).2.2.2.2.2.2.2.2.2.2.2.1 0
  have h1 : win0_11.index t 1 = 0 := congrFun (index_eq t).2.2.2.2.2.2.2.2.2.2.2.1 1
  refine (congrArg _ (eq_ix2 (n0 := 256) (n1 := 6912) y)).trans ((Dh.hColCodes_apply _ _ _ _ _ _ _ _ _ (y 0) (y 1)).trans ?_)
  refine Eq.trans (Dh.colCode_shift (h_block m c t) (2 * (grid0.coords t 0).val) 2 (by omega) rfl _ _ hy0 hy1) ?_
  exact congrArg₂ (colCode _) (by omega) (by omega)

/-- The scales of the gradient along columns. -/
theorem final_12 : (dats m 0 c).arrAt 12 cfg0.N
    = fun y : S24x2x6912.Idx => colScale (hhOf m c) (2 * (y 0).val + (y 1).val) (y 2).val := by
  refine (dats m 0 c).arrAt_eq_of_covers 12 _ (by decide +kernel) fun t hf y => ?_
  blk_simp
  rw [after0_12]
  unfold outsAt0
  rw [out_eq_12]
  have hy0 : (y 0).val < 1 := (y 0).isLt
  have hy1 : (y 1).val < 2 := (y 1).isLt
  have hy2 : (y 2).val < 6912 := (y 2).isLt
  have h0 : win0_12.index t 0 = (grid0.coords t 0).val := congrFun (index_eq t).2.2.2.2.2.2.2.2.2.2.2.2 0
  have h1 : win0_12.index t 1 = 0 := congrFun (index_eq t).2.2.2.2.2.2.2.2.2.2.2.2 1
  have h2 : win0_12.index t 2 = 0 := congrFun (index_eq t).2.2.2.2.2.2.2.2.2.2.2.2 2
  refine (congrArg _ (at_plane y)).trans ((Dh.hColScales_apply _ _ _ _ _ _ _ _ (y 1) (y 2)).trans ?_)
  refine Eq.trans (Dh.colScale_shift (h_block m c t) (2 * (grid0.coords t 0).val) (by omega) _ _ (by omega) hy2) ?_
  exact congrArg₂ (colScale _) (by omega) (by omega)

end Cert.Proof.DhKernel

end
-- ==== Proof.DhRefRun.lean ====
/-
  Hand-written. The gradient's reference runs as one call without a grid, so every window's block is its whole array: after the run
  each of the eight result arrays holds what the body stores there, as a function of the argument arrays, and the arguments are as
  they were.
-/
module

public import proofs.«01_k».proof.Proof.Gen.DhRefIdeal.Frame
public import Idealize.ShloMosaic.Lib.Pipeline.Value

@[expose] public section

noncomputable section

namespace Cert.Proof.DhRefRun

open Cert.DhRefIdeal Cert.DhRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! An index of a window's block is the same index of its array. -/

theorem zero_at0 : ∀ t : Fin cfg0.N, win0_0.index t (0 : Fin 2) = 0 ∧ win0_0.index t (1 : Fin 2) = 0 :=
  (by decide +kernel : ∀ t : Fin grid0.N, _)
theorem emb0 (t : Fin cfg0.N) (j : S6144x4096.Idx) : ((cfg0.win 0).blk t).view.emb j = j := by
  obtain ⟨e0, e1⟩ := zero_at0 t
  funext a; apply Fin.ext
  match a with
  | ⟨0, _⟩ => show win0_0.index t (0 : Fin 2) * 6144 + 1 * (j 0).val = (j 0).val; omega
  | ⟨1, _⟩ => show win0_0.index t (1 : Fin 2) * 4096 + 1 * (j 1).val = (j 1).val; omega

theorem zero_at1 : ∀ t : Fin cfg0.N, win0_1.index t (0 : Fin 2) = 0 ∧ win0_1.index t (1 : Fin 2) = 0 :=
  (by decide +kernel : ∀ t : Fin grid0.N, _)
theorem emb1 (t : Fin cfg0.N) (j : S6144x6912.Idx) : ((cfg0.win 1).blk t).view.emb j = j := by
  obtain ⟨e0, e1⟩ := zero_at1 t
  funext a; apply Fin.ext
  match a with
  | ⟨0, _⟩ => show win0_1.index t (0 : Fin 2) * 6144 + 1 * (j 0).val = (j 0).val; omega
  | ⟨1, _⟩ => show win0_1.index t (1 : Fin 2) * 6912 + 1 * (j 1).val = (j 1).val; omega

theorem zero_at2 : ∀ t : Fin cfg0.N, win0_2.index t (0 : Fin 2) = 0 ∧ win0_2.index t (1 : Fin 2) = 0 :=
  (by decide +kernel : ∀ t : Fin grid0.N, _)
theorem emb2 (t : Fin cfg0.N) (j : S3456x4096.Idx) : ((cfg0.win 2).blk t).view.emb j = j := by
  obtain ⟨e0, e1⟩ := zero_at2 t
  funext a; apply Fin.ext
  match a with
  | ⟨0, _⟩ => show win0_2.index t (0 : Fin 2) * 3456 + 1 * (j 0).val = (j 0).val; omega
  | ⟨1, _⟩ => show win0_2.index t (1 : Fin 2) * 4096 + 1 * (j 1).val = (j 1).val; omega

theorem zero_at3 : ∀ t : Fin cfg0.N, win0_3.index t (0 : Fin 2) = 0 ∧ win0_3.index t (1 : Fin 2) = 0 :=
  (by decide +kernel : ∀ t : Fin grid0.N, _)
theorem emb3 (t : Fin cfg0.N) (j : S27x32.Idx) : ((cfg0.win 3).blk t).view.emb j = j := by
  obtain ⟨e0, e1⟩ := zero_at3 t
  funext a; apply Fin.ext
  match a with
  | ⟨0, _⟩ => show win0_3.index t (0 : Fin 2) * 27 + 1 * (j 0).val = (j 0).val; omega
  | ⟨1, _⟩ => show win0_3.index t (1 : Fin 2) * 32 + 1 * (j 1).val = (j 1).val; omega

theorem zero_at4 : ∀ t : Fin cfg0.N, win0_4.index t (0 : Fin 2) = 0 ∧ win0_4.index t (1 : Fin 2) = 0 :=
  (by decide +kernel : ∀ t : Fin grid0.N, _)
theorem emb4 (t : Fin cfg0.N) (j : S6144x4096.Idx) : ((cfg0.win 4).blk t).view.emb j = j := by
  obtain ⟨e0, e1⟩ := zero_at4 t
  funext a; apply Fin.ext
  match a with
  | ⟨0, _⟩ => show win0_4.index t (0 : Fin 2) * 6144 + 1 * (j 0).val = (j 0).val; omega
  | ⟨1, _⟩ => show win0_4.index t (1 : Fin 2) * 4096 + 1 * (j 1).val = (j 1).val; omega

theorem zero_at5 : ∀ t : Fin cfg0.N, win0_5.index t (0 : Fin 2) = 0 ∧ win0_5.index t (1 : Fin 2) = 0 :=
  (by decide +kernel : ∀ t : Fin grid0.N, _)
theorem emb5 (t : Fin cfg0.N) (j : S6144x32.Idx) : ((cfg0.win 5).blk t).view.emb j = j := by
  obtain ⟨e0, e1⟩ := zero_at5 t
  funext a; apply Fin.ext
  match a with
  | ⟨0, _⟩ => show win0_5.index t (0 : Fin 2) * 6144 + 1 * (j 0).val = (j 0).val; omega
  | ⟨1, _⟩ => show win0_5.index t (1 : Fin 2) * 32 + 1 * (j 1).val = (j 1).val; omega

theorem zero_at6 : ∀ t : Fin cfg0.N, win0_6.index t (0 : Fin 2) = 0 ∧ win0_6.index t (1 : Fin 2) = 0 :=
  (by decide +kernel : ∀ t : Fin grid0.N, _)
theorem emb6 (t : Fin cfg0.N) (j : S6144x4096.Idx) : ((cfg0.win 6).blk t).view.emb j = j := by
  obtain ⟨e0, e1⟩ := zero_at6 t
  funext a; apply Fin.ext
  match a with
  | ⟨0, _⟩ => show win0_6.index t (0 : Fin 2) * 6144 + 1 * (j 0).val = (j 0).val; omega
  | ⟨1, _⟩ => show win0_6.index t (1 : Fin 2) * 4096 + 1 * (j 1).val = (j 1).val; omega

theorem zero_at7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (j : S24x2x4096.Idx) : ((cfg0.win 7).blk t).view.emb j = j := by
  obtain ⟨e0, e1, e2⟩ := zero_at7 t
  funext a; apply Fin.ext
  match a with
  | ⟨0, _⟩ => show win0_7.index t (0 : Fin 3) * 24 + 1 * (j 0).val = (j 0).val; omega
  | ⟨1, _⟩ => show win0_7.index t (1 : Fin 3) * 2 + 1 * (j 1).val = (j 1).val; omega
  | ⟨2, _⟩ => show win0_7.index t (2 : Fin 3) * 4096 + 1 * (j 2).val = (j 2).val; omega

theorem zero_at8 : ∀ t : Fin cfg0.N, win0_8.index t (0 : Fin 2) = 0 ∧ win0_8.index t (1 : Fin 2) = 0 :=
  (by decide +kernel : ∀ t : Fin grid0.N, _)
theorem emb8 (t : Fin cfg0.N) (j : S6144x6912.Idx) : ((cfg0.win 8).blk t).view.emb j = j := by
  obtain ⟨e0, e1⟩ := zero_at8 t
  funext a; apply Fin.ext
  match a with
  | ⟨0, _⟩ => show win0_8.index t (0 : Fin 2) * 6144 + 1 * (j 0).val = (j 0).val; omega
  | ⟨1, _⟩ => show win0_8.index t (1 : Fin 2) * 6912 + 1 * (j 1).val = (j 1).val; omega

theorem zero_at9 : ∀ t : Fin cfg0.N, win0_9.index t (0 : Fin 2) = 0 ∧ win0_9.index t (1 : Fin 2) = 0 :=
  (by decide +kernel : ∀ t : Fin grid0.N, _)
theorem emb9 (t : Fin cfg0.N) (j : S6144x54.Idx) : ((cfg0.win 9).blk t).view.emb j = j := by
  obtain ⟨e0, e1⟩ := zero_at9 t
  funext a; apply Fin.ext
  match a with
  | ⟨0, _⟩ => show win0_9.index t (0 : Fin 2) * 6144 + 1 * (j 0).val = (j 0).val; omega
  | ⟨1, _⟩ => show win0_9.index t (1 : Fin 2) * 54 + 1 * (j 1).val = (j 1).val; omega

theorem zero_at10 : ∀ t : Fin cfg0.N, win0_10.index t (0 : Fin 2) = 0 ∧ win0_10.index t (1 : Fin 2) = 0 :=
  (by decide +kernel : ∀ t : Fin grid0.N, _)
theorem emb10 (t : Fin cfg0.N) (j : S6144x6912.Idx) : ((cfg0.win 10).blk t).view.emb j = j := by
  obtain ⟨e0, e1⟩ := zero_at10 t
  funext a; apply Fin.ext
  match a with
  | ⟨0, _⟩ => show win0_10.index t (0 : Fin 2) * 6144 + 1 * (j 0).val = (j 0).val; omega
  | ⟨1, _⟩ => show win0_10.index t (1 : Fin 2) * 6912 + 1 * (j 1).val = (j 1).val; omega

theorem zero_at11 : ∀ t : Fin cfg0.N, win0_11.index t (0 : Fin 3) = 0 ∧ win0_11.index t (1 : Fin 3) = 0 ∧ win0_11.index t (2 : Fin 3) = 0 :=
  (by decide +kernel : ∀ t : Fin grid0.N, _)
theorem emb11 (t : Fin cfg0.N) (j : S24x2x6912.Idx) : ((cfg0.win 11).blk t).view.emb j = j := by
  obtain ⟨e0, e1, e2⟩ := zero_at11 t
  funext a; apply Fin.ext
  match a with
  | ⟨0, _⟩ => show win0_11.index t (0 : Fin 3) * 24 + 1 * (j 0).val = (j 0).val; omega
  | ⟨1, _⟩ => show win0_11.index t (1 : Fin 3) * 2 + 1 * (j 1).val = (j 1).val; omega
  | ⟨2, _⟩ => show win0_11.index t (2 : Fin 3) * 6912 + 1 * (j 2).val = (j 2).val; omega

/-! An argument's block is the argument. -/

theorem block0 (c : Dev nD) (t : Fin cfg0.N) : iblk m c 0 t = V m c main_arg0 := by
  funext j; show V m c main_arg0 (((cfg0.win 0).blk t).view.emb j) = V m c main_arg0 j; rw [emb0]

theorem block1 (c : Dev nD) (t : Fin cfg0.N) : iblk m c 1 t = V m c main_arg1 := by
  funext j; show V m c main_arg1 (((cfg0.win 1).blk t).view.emb j) = V m c main_arg1 j; rw [emb1]

theorem block2 (c : Dev nD) (t : Fin cfg0.N) : iblk m c 2 t = V m c main_arg2 := by
  funext j; show V m c main_arg2 (((cfg0.win 2).blk t).view.emb j) = V m c main_arg2 j; rw [emb2]

theorem block3 (c : Dev nD) (t : Fin cfg0.N) : iblk m c 3 t = V m c main_arg3 := by
  funext j; show V m c main_arg3 (((cfg0.win 3).blk t).view.emb j) = V m c main_arg3 j; rw [emb3]

/-! What the body stores, and so what each result array ends with. -/

abbrev G4 (a0 : Vec F S6144x4096 .bf16) (a1 : Vec F S6144x6912 .bf16) (a2 : Vec F S3456x4096 .fp8e4m3) (a3 : Vec F S27x32 .f32) : Vec F S6144x4096 .fp8e5m2 :=
  k0_pay29 a0 a1 a2 a3
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine ((dats m 0 c).arrAt_eq_of_cover 4 (G4 (V m c main_arg0) (V m c main_arg1) (V m c main_arg2) (V m c main_arg3)) (fun t _ => ?_) fun i =>
    ⟨(⟨0, by decide⟩ : Fin cfg0.N), flush0_4 _, by have h := ((cfg0.win 4).blk (⟨0, by decide⟩ : Fin cfg0.N)).view.emb_mem_set i; rwa [emb4] at h⟩).trans
    (by rw [V_main_arg0, V_main_arg1, V_main_arg2, V_main_arg3])
  show (cfg0.win 4).cut (grid0.coords t) ((dats m 0 c).after 4 t) = _
  rw [after0_4, block0, block1, block2, block3]
  unfold out0_4
  rw [View.canon_unit_zero zero2]
  funext j
  show G4 (V m c main_arg0) (V m c main_arg1) (V m c main_arg2) (V m c main_arg3) j = G4 (V m c main_arg0) (V m c main_arg1) (V m c main_arg2) (V m c main_arg3) (((cfg0.win 4).blk t).view.emb j)
  rw [emb4]

abbrev G5 (a0 : Vec F S6144x4096 .bf16) (a1 : Vec F S6144x6912 .bf16) (a2 : Vec F S3456x4096 .fp8e4m3) (a3 : Vec F S27x32 .f32) : Vec F S6144x32 .f32 :=
  k0_pay28 a0 a1 a2 a3
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine ((dats m 0 c).arrAt_eq_of_cover 5 (G5 (V m c main_arg0) (V m c main_arg1) (V m c main_arg2) (V m c main_arg3)) (fun t _ => ?_) fun i =>
    ⟨(⟨0, by decide⟩ : Fin cfg0.N), flush0_5 _, by have h := ((cfg0.win 5).blk (⟨0, by decide⟩ : Fin cfg0.N)).view.emb_mem_set i; rwa [emb5] at h⟩).trans
    (by rw [V_main_arg0, V_main_arg1, V_main_arg2, V_main_arg3])
  show (cfg0.win 5).cut (grid0.coords t) ((dats m 0 c).after 5 t) = _
  rw [after0_5, block0, block1, block2, block3]
  unfold out0_5
  rw [View.canon_unit_zero zero2]
  funext j
  show G5 (V m c main_arg0) (V m c main_arg1) (V m c main_arg2) (V m c main_arg3) j = G5 (V m c main_arg0) (V m c main_arg1) (V m c main_arg2) (V m c main_arg3) (((cfg0.win 5).blk t).view.emb j)
  rw [emb5]

abbrev G6 (a0 : Vec F S6144x4096 .bf16) (a1 : Vec F S6144x6912 .bf16) (a2 : Vec F S3456x4096 .fp8e4m3) (a3 : Vec F S27x32 .f32) : Vec F S6144x4096 .fp8e5m2 :=
  k0_pay11 (k0_pay6 a0) (k0_pay30 a0 a1 a2 a3) (k0_pay31 a0 a1 a2 a3)
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine ((dats m 0 c).arrAt_eq_of_cover 6 (G6 (V m c main_arg0) (V m c main_arg1) (V m c main_arg2) (V m c main_arg3)) (fun t _ => ?_) fun i =>
    ⟨(⟨0, by decide⟩ : Fin cfg0.N), flush0_6 _, by have h := ((cfg0.win 6).blk (⟨0, by decide⟩ : Fin cfg0.N)).view.emb_mem_set i; rwa [emb6] at h⟩).trans
    (by rw [V_main_arg0, V_main_arg1, V_main_arg2, V_main_arg3])
  show (cfg0.win 6).cut (grid0.coords t) ((dats m 0 c).after 6 t) = _
  rw [after0_6, block0, block1, block2, block3]
  unfold out0_6
  rw [View.canon_unit_zero zero2, View.ld_unit_zero (S := S6144x4096) zero2 _ (V m c main_arg0)]
  funext j
  show G6 (V m c main_arg0) (V m c main_arg1) (V m c main_arg2) (V m c main_arg3) j = G6 (V m c main_arg0) (V m c main_arg1) (V m c main_arg2) (V m c main_arg3) (((cfg0.win 6).blk t).view.emb j)
  rw [emb6]

abbrev G7 (a0 : Vec F S6144x4096 .bf16) (a1 : Vec F S6144x6912 .bf16) (a2 : Vec F S3456x4096 .fp8e4m3) (a3 : Vec F S27x32 .f32) : Vec F S24x2x4096 .f32 :=
  k0_pay27 (k0_pay10 (k0_pay30 a0 a1 a2 a3) (k0_pay31 a0 a1 a2 a3))
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine ((dats m 0 c).arrAt_eq_of_cover 7 (G7 (V m c main_arg0) (V m c main_arg1) (V m c main_arg2) (V m c main_arg3)) (fun t _ => ?_) fun i =>
    ⟨(⟨0, by decide⟩ : Fin cfg0.N), flush0_7 _, by have h := ((cfg0.win 7).blk (⟨0, by decide⟩ : Fin cfg0.N)).view.emb_mem_set i; rwa [emb7] at h⟩).trans
    (by rw [V_main_arg0, V_main_arg1, V_main_arg2, V_main_arg3])
  show (cfg0.win 7).cut (grid0.coords t) ((dats m 0 c).after 7 t) = _
  rw [after0_7, block0, block1, block2, block3]
  unfold out0_7
  rw [View.canon_unit_zero zero3]
  funext j
  show G7 (V m c main_arg0) (V m c main_arg1) (V m c main_arg2) (V m c main_arg3) j = G7 (V m c main_arg0) (V m c main_arg1) (V m c main_arg2) (V m c main_arg3) (((cfg0.win 7).blk t).view.emb j)
  rw [emb7]

abbrev G8 (a0 : Vec F S6144x4096 .bf16) (a1 : Vec F S6144x6912 .bf16) (a2 : Vec F S3456x4096 .fp8e4m3) (a3 : Vec F S27x32 .f32) : Vec F S6144x6912 .fp8e5m2 :=
  k0_pay20 (k0_pay32 a0 a1 a2 a3) (k0_pay33 a0 a1 a2 a3) (k0_pay34 a0 a1 a2 a3) (k0_pay35 a0 a1 a2 a3)
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) := by
  refine ((dats m 0 c).arrAt_eq_of_cover 8 (G8 (V m c main_arg0) (V m c main_arg1) (V m c main_arg2) (V m c main_arg3)) (fun t _ => ?_) fun i =>
    ⟨(⟨0, by decide⟩ : Fin cfg0.N), flush0_8 _, by have h := ((cfg0.win 8).blk (⟨0, by decide⟩ : Fin cfg0.N)).view.emb_mem_set i; rwa [emb8] at h⟩).trans
    (by rw [V_main_arg0, V_main_arg1, V_main_arg2, V_main_arg3])
  show (cfg0.win 8).cut (grid0.coords t) ((dats m 0 c).after 8 t) = _
  rw [after0_8, block0, block1, block2, block3]
  unfold out0_8
  rw [View.canon_unit_zero zero2]
  funext j
  show G8 (V m c main_arg0) (V m c main_arg1) (V m c main_arg2) (V m c main_arg3) j = G8 (V m c main_arg0) (V m c main_arg1) (V m c main_arg2) (V m c main_arg3) (((cfg0.win 8).blk t).view.emb j)
  rw [emb8]

abbrev G9 (a0 : Vec F S6144x4096 .bf16) (a1 : Vec F S6144x6912 .bf16) (a2 : Vec F S3456x4096 .fp8e4m3) (a3 : Vec F S27x32 .f32) : Vec F S6144x54 .f32 :=
  k0_pay19 (k0_pay32 a0 a1 a2 a3) (k0_pay33 a0 a1 a2 a3) (k0_pay34 a0 a1 a2 a3) (k0_pay35 a0 a1 a2 a3)
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) := by
  refine ((dats m 0 c).arrAt_eq_of_cover 9 (G9 (V m c main_arg0) (V m c main_arg1) (V m c main_arg2) (V m c main_arg3)) (fun t _ => ?_) fun i =>
    ⟨(⟨0, by decide⟩ : Fin cfg0.N), flush0_9 _, by have h := ((cfg0.win 9).blk (⟨0, by decide⟩ : Fin cfg0.N)).view.emb_mem_set i; rwa [emb9] at h⟩).trans
    (by rw [V_main_arg0, V_main_arg1, V_main_arg2, V_main_arg3])
  show (cfg0.win 9).cut (grid0.coords t) ((dats m 0 c).after 9 t) = _
  rw [after0_9, block0, block1, block2, block3]
  unfold out0_9
  rw [View.canon_unit_zero zero2]
  funext j
  show G9 (V m c main_arg0) (V m c main_arg1) (V m c main_arg2) (V m c main_arg3) j = G9 (V m c main_arg0) (V m c main_arg1) (V m c main_arg2) (V m c main_arg3) (((cfg0.win 9).blk t).view.emb j)
  rw [emb9]

abbrev G10 (a0 : Vec F S6144x4096 .bf16) (a1 : Vec F S6144x6912 .bf16) (a2 : Vec F S3456x4096 .fp8e4m3) (a3 : Vec F S27x32 .f32) : Vec F S6144x6912 .fp8e5m2 :=
  k0_pay26 (k0_pay21 (k0_pay32 a0 a1 a2 a3) (k0_pay33 a0 a1 a2 a3) (k0_pay34 a0 a1 a2 a3) (k0_pay35 a0 a1 a2 a3)) (k0_pay36 a0 a1 a2 a3) (k0_pay37 a0 a1 a2 a3)
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) := by
  refine ((dats m 0 c).arrAt_eq_of_cover 10 (G10 (V m c main_arg0) (V m c main_arg1) (V m c main_arg2) (V m c main_arg3)) (fun t _ => ?_) fun i =>
    ⟨(⟨0, by decide⟩ : Fin cfg0.N), flush0_10 _, by have h := ((cfg0.win 10).blk (⟨0, by decide⟩ : Fin cfg0.N)).view.emb_mem_set i; rwa [emb10] at h⟩).trans
    (by rw [V_main_arg0, V_main_arg1, V_main_arg2, V_main_arg3])
  show (cfg0.win 10).cut (grid0.coords t) ((dats m 0 c).after 10 t) = _
  rw [after0_10, block0, block1, block2, block3]
  unfold out0_10
  rw [View.canon_unit_zero zero2]
  funext j
  show G10 (V m c main_arg0) (V m c main_arg1) (V m c main_arg2) (V m c main_arg3) j = G10 (V m c main_arg0) (V m c main_arg1) (V m c main_arg2) (V m c main_arg3) (((cfg0.win 10).blk t).view.emb j)
  rw [emb10]

abbrev G11 (a0 : Vec F S6144x4096 .bf16) (a1 : Vec F S6144x6912 .bf16) (a2 : Vec F S3456x4096 .fp8e4m3) (a3 : Vec F S27x32 .f32) : Vec F S24x2x6912 .f32 :=
  k0_pay1 (k0_pay25 (k0_pay36 a0 a1 a2 a3) (k0_pay37 a0 a1 a2 a3))
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) := by
  refine ((dats m 0 c).arrAt_eq_of_cover 11 (G11 (V m c main_arg0) (V m c main_arg1) (V m c main_arg2) (V m c main_arg3)) (fun t _ => ?_) fun i =>
    ⟨(⟨0, by decide⟩ : Fin cfg0.N), flush0_11 _, by have h := ((cfg0.win 11).blk (⟨0, by decide⟩ : Fin cfg0.N)).view.emb_mem_set i; rwa [emb11] at h⟩).trans
    (by rw [V_main_arg0, V_main_arg1, V_main_arg2, V_main_arg3])
  show (cfg0.win 11).cut (grid0.coords t) ((dats m 0 c).after 11 t) = _
  rw [after0_11, block0, block1, block2, block3]
  unfold out0_11
  rw [View.canon_unit_zero zero3]
  funext j
  show G11 (V m c main_arg0) (V m c main_arg1) (V m c main_arg2) (V m c main_arg3) j = G11 (V m c main_arg0) (V m c main_arg1) (V m c main_arg2) (V m c main_arg3) (((cfg0.win 11).blk t).view.emb j)
  rw [emb11]

/-- The run: each result array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_v0_5) = G9 (m ((c : Thread nD τ).loc main_arg0)) (m ((c : Thread nD τ).loc main_arg1)) (m ((c : Thread nD τ).loc main_arg2)) (m ((c : Thread nD τ).loc main_arg3))
      ∧ r.2.mem ((c : Thread nD τ).loc main_v0_6) = G10 (m ((c : Thread nD τ).loc main_arg0)) (m ((c : Thread nD τ).loc main_arg1)) (m ((c : Thread nD τ).loc main_arg2)) (m ((c : Thread nD τ).loc main_arg3))
      ∧ r.2.mem ((c : Thread nD τ).loc main_v0_7) = G11 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      ((h c).1 6).trans (final6 m c),
      ((h c).1 7).trans (final7 m c),
      ((h c).1 8).trans (final8 m c),
      ((h c).1 9).trans (final9 m c),
      ((h c).1 10).trans (final10 m c),
      ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.DhRefRun

end
-- ==== Proof.ColDot.lean ====
/-
  Hand-written. The reference's side of the product over columns: a row-wise scaled array and a 2-D block-scaled array
  written out, and the product of the two contracted over their columns.
-/
module

public import proofs.«01_k».proof.Proof.DxValue
public import proofs.«01_k».proof.Proof.RowDot

@[expose] public section

set_option maxRecDepth 16384

noncomputable section

namespace Cert.Proof.ColDot

open Idealize.ShloMosaic hiding ix2 eq_ix2 mulf_apply extf_apply truncf_apply
open Idealize.ShloMosaic.ValueIdx
open Cert.Proof.Scaled (M2 M3 at3)
open Cert.Proof.DxBlock (colBlock prodAt)

/-- A shape of four axes. -/
abbrev M4 (a b c d : ℕ) : Shape := ⟨4, ![a, b, c, d]⟩

/-- An index of a shape of four axes. -/
def at4 {a b c d : ℕ} (i : Fin a) (j : Fin b) (k : Fin c) (l : Fin d) : (M4 a b c d).Idx :=
  fun | ⟨0, _⟩ => i | ⟨1, _⟩ => j | ⟨2, _⟩ => k | ⟨3, _⟩ => l

/-- [6144, 6912] and [6144, 54, 128] have as many elements. -/
theorem casts_cols : (M2 6144 6912).ShapeCasts (M3 6144 54 128) := by
  simp [Shape.ShapeCasts, Shape.numel, Fin.prod_univ_succ]

/-- [6144, 54] and [6144, 54, 1] have as many elements. -/
theorem casts_colScale : (M2 6144 54).ShapeCasts (M3 6144 54 1) := by
  simp [Shape.ShapeCasts, Shape.numel, Fin.prod_univ_succ]

/-- [4096, 6912] and [32, 128, 54, 128] have as many elements. -/
theorem casts_blocks : (M2 4096 6912).ShapeCasts (M4 32 128 54 128) := by
  simp [Shape.ShapeCasts, Shape.numel, Fin.prod_univ_succ]

/-- [32, 54] and [32, 1, 54, 1] have as many elements. -/
theorem casts_blockScale : (M2 32 54).ShapeCasts (M4 32 1 54 1) := by
  simp [Shape.ShapeCasts, Shape.numel, Fin.prod_univ_succ]

/-- A scale broadcasts over its group of 128 columns. -/
theorem col_broadcasts : (M3 6144 54 1).Broadcasts (M3 6144 54 128) :=
  ⟨Nat.le_refl 3, fun x => by fin_cases x <;> first | exact .inl rfl | exact .inr fun _ => rfl⟩

/-- A scale broadcasts over its 128 × 128 block. -/
theorem block_broadcasts : (M4 32 1 54 1).Broadcasts (M4 32 128 54 128) :=
  ⟨Nat.le_refl 4, fun x => by fin_cases x <;> first | exact .inl rfl | exact .inr fun _ => rfl⟩

section Any
variable {F : FTy → Type} [FloatOps F] {φ ψ : FTy}

/-- The row-wise scaled array written out. -/
def rowwise (hφ : φ.bits < FTy.bits .bf16) (hb : FTy.bits .bf16 < FTy.bits .f32)
    (x : FVec F (M2 6144 6912) φ) (s : FVec F (M2 6144 54) .f32) : FVec F (M2 6144 6912) .bf16 :=
  shapeCast (M2 6144 6912) (mulf (shapeCast (M3 6144 54 128) (extf .bf16 x hφ) casts_cols)
    (broadcastTo (M3 6144 54 128) (shapeCast (M3 6144 54 1) (truncf .bf16 s hb) casts_colScale) col_broadcasts)) casts_cols.symm

/-- The 2-D block-scaled array written out. -/
def blockwise (hψ : ψ.bits < FTy.bits .bf16) (hb : FTy.bits .bf16 < FTy.bits .f32)
    (w : FVec F (M2 4096 6912) ψ) (s : FVec F (M2 32 54) .f32) : FVec F (M2 4096 6912) .bf16 :=
  shapeCast (M2 4096 6912) (mulf (shapeCast (M4 32 128 54 128) (extf .bf16 w hψ) casts_blocks)
    (broadcastTo (M4 32 128 54 128) (shapeCast (M4 32 1 54 1) (truncf .bf16 s hb) casts_blockScale) block_broadcasts)) casts_blocks.symm

/-- The reference's product over columns. -/
def colProd (hφ : φ.bits < FTy.bits .bf16) (hψ : ψ.bits < FTy.bits .bf16) (hb : FTy.bits .bf16 < FTy.bits .f32)
    (x : FVec F (M2 6144 6912) φ) (s : FVec F (M2 6144 54) .f32) (w : FVec F (M2 4096 6912) ψ) (ws : FVec F (M2 32 54) .f32) :
    FVec F (M2 6144 4096) .bf16 :=
  truncf .bf16 (matmul (DotDims.transposedRhs 6144 6912 4096) none (rowwise hφ hb x s) (blockwise hψ hb w ws)
    (constant (M2 6144 4096) .f32 0x00000000#32)) hb

end Any

variable {φ ψ : FTy}

/-- The written-out row-wise scaled array at (a, k). -/
theorem rowwise_apply (hφ : φ.bits < FTy.bits .bf16) (hb : FTy.bits .bf16 < FTy.bits .f32)
    (x : FVec Ideal (M2 6144 6912) φ) (s : FVec Ideal (M2 6144 54) .f32) (a : Fin 6144) (k : Fin 6912) :
    rowwise hφ hb x s (ix2 a k) = x (ix2 a k) * s (ix2 a (colBlock k)) := by
  have hm : k.val % 128 < 128 := Nat.mod_lt _ (by decide)
  have e : (a.val * 54 + k.val / 128) * 128 + k.val % 128 = a.val * 6912 + k.val := by omega
  unfold rowwise
  rw [shapeCast_apply _ _ (ix2 a k) (at3 a (colBlock k) ⟨k.val % 128, hm⟩) (by
      rw [Shape.rowMajor_val_three, Shape.rowMajor_val_two]; exact e), mulf_apply,
    shapeCast_apply _ _ (at3 a (colBlock k) ⟨k.val % 128, hm⟩) (ix2 a k) (by
      rw [Shape.rowMajor_val_three, Shape.rowMajor_val_two]; exact e.symm), extf_apply,
    broadcastTo_apply _ _ (at3 a (colBlock k) ⟨k.val % 128, hm⟩) (at3 a (colBlock k) (0 : Fin 1)) (fun a => by fin_cases a <;> rfl),
    shapeCast_apply _ _ (at3 a (colBlock k) (0 : Fin 1)) (ix2 a (colBlock k)) (by
      rw [Shape.rowMajor_val_three, Shape.rowMajor_val_two]
      show a.val * 54 + k.val / 128 = (a.val * 54 + k.val / 128) * 1 + 0
      omega), truncf_apply]

/-- The written-out 2-D block-scaled array at (c, k). -/
theorem blockwise_apply (hψ : ψ.bits < FTy.bits .bf16) (hb : FTy.bits .bf16 < FTy.bits .f32)
    (w : FVec Ideal (M2 4096 6912) ψ) (s : FVec Ideal (M2 32 54) .f32) (c : Fin 4096) (k : Fin 6912) :
    blockwise hψ hb w s (ix2 c k) = w (ix2 c k) * s (ix2 (⟨c.val / 128, by omega⟩ : Fin 32) (colBlock k)) := by
  have hm : k.val % 128 < 128 := Nat.mod_lt _ (by decide)
  have hn : c.val % 128 < 128 := Nat.mod_lt _ (by decide)
  have hc : c.val / 128 < 32 := by omega
  have e : ((c.val / 128 * 128 + c.val % 128) * 54 + k.val / 128) * 128 + k.val % 128 = c.val * 6912 + k.val := by omega
  unfold blockwise
  rw [shapeCast_apply _ _ (ix2 c k) (at4 (⟨c.val / 128, hc⟩ : Fin 32) ⟨c.val % 128, hn⟩ (colBlock k) ⟨k.val % 128, hm⟩) (by
      rw [Shape.rowMajor_val_four, Shape.rowMajor_val_two]; exact e), mulf_apply,
    shapeCast_apply _ _ (at4 (⟨c.val / 128, hc⟩ : Fin 32) ⟨c.val % 128, hn⟩ (colBlock k) ⟨k.val % 128, hm⟩) (ix2 c k) (by
      rw [Shape.rowMajor_val_four, Shape.rowMajor_val_two]; exact e.symm), extf_apply,
    broadcastTo_apply _ _ (at4 (⟨c.val / 128, hc⟩ : Fin 32) ⟨c.val % 128, hn⟩ (colBlock k) ⟨k.val % 128, hm⟩)
      (at4 (⟨c.val / 128, hc⟩ : Fin 32) (0 : Fin 1) (colBlock k) (0 : Fin 1)) (fun a => by fin_cases a <;> rfl),
    shapeCast_apply _ _ (at4 (⟨c.val / 128, hc⟩ : Fin 32) (0 : Fin 1) (colBlock k) (0 : Fin 1)) (ix2 (⟨c.val / 128, hc⟩ : Fin 32) (colBlock k)) (by
      rw [Shape.rowMajor_val_four, Shape.rowMajor_val_two]
      show c.val / 128 * 54 + k.val / 128 = ((c.val / 128 * 1 + 0) * 54 + k.val / 128) * 1 + 0
      omega), truncf_apply]

/-- The reference's product at (a, c). -/
theorem colProd_apply (hφ : φ.bits < FTy.bits .bf16) (hψ : ψ.bits < FTy.bits .bf16) (hb : FTy.bits .bf16 < FTy.bits .f32)
    (x : FVec Ideal (M2 6144 6912) φ) (s : FVec Ideal (M2 6144 54) .f32) (w : FVec Ideal (M2 4096 6912) ψ) (ws : FVec Ideal (M2 32 54) .f32)
    (a : Fin 6144) (c : Fin 4096) :
    colProd hφ hψ hb x s w ws (ix2 a c) = prodAt x s w
      (fun a k => ws (ix2 (⟨a.val / 128, by omega⟩ : Fin 32) (colBlock k))) a c := by
  unfold colProd prodAt
  rw [truncf_apply]
  show FloatOps.matmul (DotDims.transposedRhs 6144 6912 4096) none (rowwise hφ hb x s) (blockwise hψ hb w ws)
    (constant (M2 6144 4096) .f32 0x00000000#32) (ix2 a c) = _
  rw [Ideal.matmul_transposedRhs_apply]
  show Ideal.ofBits .f32 0x00000000#32 + _ = _
  rw [Ideal.ofBits_zero_f32, zero_add]
  exact Finset.sum_congr rfl fun k _ => by rw [rowwise_apply, blockwise_apply]

/-- The reference's product over columns, as one function of the index. -/
theorem colProd_eq (hφ : φ.bits < FTy.bits .bf16) (hψ : ψ.bits < FTy.bits .bf16) (hb : FTy.bits .bf16 < FTy.bits .f32)
    (x : FVec Ideal (M2 6144 6912) φ) (s : FVec Ideal (M2 6144 54) .f32) (w : FVec Ideal (M2 4096 6912) ψ) (ws : FVec Ideal (M2 32 54) .f32) :
    colProd hφ hψ hb x s w ws = fun y => prodAt x s w
      (fun a k => ws (ix2 (⟨a.val / 128, by omega⟩ : Fin 32) (colBlock k))) (y 0 : Fin 6144) (y 1 : Fin 4096) :=
  funext fun y => (congrArg _ (eq_ix2 y)).trans (colProd_apply hφ hψ hb x s w ws (y 0) (y 1))

end Cert.Proof.ColDot

end
-- ==== Proof.DhRefValue.lean ====
/-
  Hand-written. The gradient's reference, as its operations over whole arrays: the two quantisers (along rows, 128 columns to a
  scale; along columns, 128 rows to a scale), the product with the weights, and the gradient of the activation. Over the extended
  reals each of them, read at an index, is the function of natural-number coordinates that DhSpec.lean names.
-/
module

public import proofs.«01_k».proof.Proof.DhSpec
public import proofs.«01_k».proof.Proof.ColDot

@[expose] public section

set_option maxRecDepth 16384

noncomputable section

namespace Cert.Proof.DhRef

open Idealize.ShloMosaic hiding ix1 ix2 eq_ix2 mulf_apply extf_apply truncf_apply
open Idealize.ShloMosaic.ValueIdx
open Cert.Proof.Scaled (M2 M3 at3)
open Cert.Proof.ColDot (M4 at4)
open Cert.Proof.Dh

/-- The rows of a `6144 × D` array in groups of 128 columns. -/
theorem casts_cols (N D : ℕ) (h : D = N * 128) : (M2 6144 D).ShapeCasts (M3 6144 N 128) := by
  subst h; simp [Shape.ShapeCasts, Shape.numel, Fin.prod_univ_succ]
/-- One scale per group. -/
theorem casts_colScale (N : ℕ) : (M2 6144 N).ShapeCasts (M3 6144 N 1) := by
  simp [Shape.ShapeCasts, Shape.numel, Fin.prod_univ_succ]
/-- A scale broadcasts over its group. -/
theorem col_broadcasts (N : ℕ) : (M3 6144 N 1).Broadcasts (M3 6144 N 128) :=
  ⟨Nat.le_refl 3, fun x => by fin_cases x <;> first | exact .inl rfl | exact .inr fun _ => rfl⟩
/-- The 48 rows of scales, two to a plane. -/
theorem casts_planes (D : ℕ) : (M2 48 D).ShapeCasts (M3 24 2 D) := by
  simp [Shape.ShapeCasts, Shape.numel, Fin.prod_univ_succ, ← mul_assoc]
/-- [3456, 4096] and [27, 128, 32, 128] have as many elements. -/
theorem casts_blocks : (M2 3456 4096).ShapeCasts (M4 27 128 32 128) := by
  simp [Shape.ShapeCasts, Shape.numel, Fin.prod_univ_succ]
/-- [27, 32] and [27, 1, 32, 1] have as many elements. -/
theorem casts_blockScale : (M2 27 32).ShapeCasts (M4 27 1 32 1) := by
  simp [Shape.ShapeCasts, Shape.numel, Fin.prod_univ_succ]
/-- A scale broadcasts over its 128 × 128 block. -/
theorem block_broadcasts : (M4 27 1 32 1).Broadcasts (M4 27 128 32 128) :=
  ⟨Nat.le_refl 4, fun x => by fin_cases x <;> first | exact .inl rfl | exact .inr fun _ => rfl⟩
/-- The two halves of the gradient side by side. -/
theorem halves_concatenate : Shape.Concatenates [M2 6144 3456, M2 6144 3456] (M2 6144 6912) 1 := by decide
/-- 3456 columns of the activation's input are a slice of it. -/
theorem half_slices (o : ℕ) (h : o + 3456 ≤ 6912) : (M2 6144 6912).Slices ![0, o] (M2 6144 3456) :=
  ⟨rfl, fun x => by fin_cases x; exact (Nat.zero_add 6144).le; exact h⟩

section Any
variable {F : FTy → Type} [FloatOps F]

section Quant
variable (N D : ℕ) (hD : D = N * 128) (hr : (M3 6144 N 128).Reduces [2] (M2 6144 N)) (hc : (M3 48 128 D).Reduces [1] (M2 48 D))
  (h9 : FTy.bits .fp8e5m2 < FTy.bits .f32) (v : FVec F (M2 6144 D) .f32)

/-- The greatest absolute values along rows. -/
def rowTops : FVec F (M2 6144 N) .f32 :=
  multiReduction .maximumf [2] (M2 6144 N) (absf (shapeCast (M3 6144 N 128) v (casts_cols N D hD))) 0xFF800000#32 hr (.inl rfl) rfl

/-- The codes along rows. -/
def rowCodes : FVec F (M2 6144 D) .fp8e5m2 :=
  shapeCast (M2 6144 D) (encode (shapeCast (M3 6144 N 128) v (casts_cols N D hD))
    (broadcastTo (M3 6144 N 128) (shapeCast (M3 6144 N 1) (refDown (rowTops N D hD hr v)) (casts_colScale N)) (col_broadcasts N)) h9)
    (casts_cols N D hD).symm

/-- The greatest absolute values along columns. -/
def colTops : FVec F (M2 48 D) .f32 :=
  multiReduction .maximumf [1] (M2 48 D) (absf (shapeCast (M3 48 128 D) v (Scaled.casts_group D))) 0xFF800000#32 hc (.inl rfl) rfl

/-- The codes along columns. -/
def colCodes : FVec F (M2 6144 D) .fp8e5m2 :=
  shapeCast (M2 6144 D) (encode (shapeCast (M3 48 128 D) v (Scaled.casts_group D))
    (broadcastTo (M3 48 128 D) (shapeCast (M3 48 1 D) (refDown (colTops D hc v)) (Scaled.casts_scale D)) (Scaled.group_broadcasts D)) h9)
    (Scaled.casts_ungroup D)

/-- Their scales, two rows to a plane. -/
def colScales : FVec F (M3 24 2 D) .f32 := shapeCast (M3 24 2 D) (refUp (colTops D hc v)) (casts_planes D)

end Quant

variable (h8 : FTy.bits .fp8e5m2 < FTy.bits .bf16) (h9 : FTy.bits .fp8e5m2 < FTy.bits .f32) (hw : FTy.bits .fp8e4m3 < FTy.bits .bf16)
  (hb : FTy.bits .bf16 < FTy.bits .f32) (hr : (M3 6144 32 128).Reduces [2] (M2 6144 32))
  (dy : FVec F (M2 6144 4096) .bf16) (gu : FVec F (M2 6144 6912) .bf16) (w : FVec F (M2 3456 4096) .fp8e4m3) (ws : FVec F (M2 27 32) .f32)

/-- The coded `dy` times its scales. -/
def left : FVec F (M2 6144 4096) .bf16 :=
  shapeCast (M2 6144 4096) (mulf (shapeCast (M3 6144 32 128) (extf .bf16 (rowCodes 32 4096 rfl hr h9 (extf .f32 dy hb)) h8) (casts_cols 32 4096 rfl))
    (broadcastTo (M3 6144 32 128) (shapeCast (M3 6144 32 1) (truncf .bf16 (refUp (rowTops 32 4096 rfl hr (extf .f32 dy hb))) hb)
      (casts_colScale 32)) (col_broadcasts 32))) (casts_cols 32 4096 rfl).symm

/-- The weights times their scales. -/
def right : FVec F (M2 3456 4096) .bf16 :=
  shapeCast (M2 3456 4096) (mulf (shapeCast (M4 27 128 32 128) (extf .bf16 w hw) casts_blocks)
    (broadcastTo (M4 27 128 32 128) (shapeCast (M4 27 1 32 1) (truncf .bf16 ws hb) casts_blockScale) block_broadcasts)) casts_blocks.symm

/-- Their product. -/
def product : FVec F (M2 6144 3456) .f32 :=
  matmul (DotDims.transposedRhs 6144 4096 3456) none (left h8 h9 hb hr dy) (right hw hb w ws) (constant (M2 6144 3456) .f32 0x00000000#32)

/-- 3456 columns of the activation's input. -/
def half (o : ℕ) (h : o + 3456 ≤ 6912) : FVec F (M2 6144 3456) .f32 :=
  extf .f32 (extractStridedSlice (M2 6144 3456) ![0, o] gu (half_slices o h)) hb

/-- The gate's part of the gradient of the activation. -/
def gate {s : Shape} (da g u : FVec F s .f32) : FVec F s .f32 :=
  mulf (mulf (mulf da u) (logistic g)) (addf (broadcast s (Scalar.ofBits .f32 0x3F800000#32))
    (mulf g (subf (broadcast s (Scalar.ofBits .f32 0x3F800000#32)) (logistic g))))
/-- The other part. -/
def value {s : Shape} (da g : FVec F s .f32) : FVec F s .f32 := mulf (mulf da g) (logistic g)

/-- The gradient of the activation, its two halves side by side. -/
def gradientOf (da g u : FVec F (M2 6144 3456) .f32) : FVec F (M2 6144 6912) .f32 :=
  concatenate (M2 6144 6912) 1 (List.ofFn fun k : Fin 2 => ⟨M2 6144 3456, if k.val = 0 then gate da g u else value da g⟩) halves_concatenate

/-- The gradient of the activation. -/
def gradient : FVec F (M2 6144 6912) .f32 :=
  gradientOf (product h8 h9 hw hb hr dy w ws) (half hb gu 0 (by omega)) (half hb gu 3456 (by omega))

end Any

/-! ### The values -/

/-- A matrix holds `V`. -/
def MatIs {A B : ℕ} (v : (M2 A B).Idx → EReal) (V : ℕ → ℕ → EReal) : Prop := ∀ (a : Fin A) (b : Fin B), v (ix2 a b) = V a.val b.val

/-- Every matrix holds what it reads as at natural-number coordinates. -/
theorem matIs_nat2 {A B : ℕ} (v : (M2 A B).Idx → EReal) : MatIs v (nat2 v) := fun a b => (nat2_of v a.val b.val a.isLt b.isLt).symm

/-- A maximum of absolute values from the initial value on. -/
theorem fold_top {src : Fin 128 → EReal} {f : ℕ → EReal} (h : ∀ k : Fin 128, src k = max (f k.val) (-f k.val)) :
    (Finset.univ : Finset (Fin 128)).fold max (Ideal.ofBits .f32 0xFF800000#32) src = blockMax f :=
  Finset.fold_congr fun k _ => h k

section Quant
variable (N D : ℕ) (hD : D = N * 128) (hr : (M3 6144 N 128).Reduces [2] (M2 6144 N)) (hc : (M3 48 128 D).Reduces [1] (M2 48 D))
  (h9 : FTy.bits .fp8e5m2 < FTy.bits .f32) {v : FVec Ideal (M2 6144 D) .f32} {V : ℕ → ℕ → EReal} (hv : MatIs v V)

include hD in
/-- The place of an entry, in rows and in groups of 128 columns. -/
theorem place (a b k : ℕ) : a * D + (128 * b + k) = (a * N + b) * 128 + k := by
  subst hD; ring

/-- Grouping columns, at an index. -/
theorem groupCols_apply (x : (M2 6144 D).Idx → EReal) (a : Fin 6144) (b : Fin N) (k : Fin 128) (d : Fin D)
    (hd : d.val = 128 * b.val + k.val) : shapeCast (M3 6144 N 128) x (casts_cols N D hD) (at3 a b k) = x (ix2 a d) :=
  shapeCast_apply _ _ _ _ (by
    rw [Shape.rowMajor_val_three, Shape.rowMajor_val_two]
    show a.val * D + d.val = (a.val * N + b.val) * 128 + k.val
    rw [hd]; exact place N D hD _ _ _)

/-- Ungrouping columns, at an index. -/
theorem ungroupCols_apply (x : (M3 6144 N 128).Idx → EReal) (a : Fin 6144) (b : Fin N) (k : Fin 128) (d : Fin D)
    (hd : d.val = 128 * b.val + k.val) : shapeCast (M2 6144 D) x (casts_cols N D hD).symm (ix2 a d) = x (at3 a b k) :=
  shapeCast_apply _ _ _ _ (by
    rw [Shape.rowMajor_val_three, Shape.rowMajor_val_two]
    show (a.val * N + b.val) * 128 + k.val = a.val * D + d.val
    rw [hd]; exact (place N D hD _ _ _).symm)

/-- A column of scales, repeated over its group. -/
theorem spreadCols_apply (x : (M2 6144 N).Idx → EReal) (a : Fin 6144) (b : Fin N) (k : Fin 128) :
    broadcastTo (M3 6144 N 128) (shapeCast (M3 6144 N 1) x (casts_colScale N)) (col_broadcasts N) (at3 a b k) = x (ix2 a b) := by
  rw [broadcastTo_apply _ _ (at3 a b k) (at3 a b (0 : Fin 1)) (fun c => by
    fin_cases c
    · rfl
    · show b.val = if N = 1 then 0 else b.val
      split
      · omega
      · rfl
    · rfl)]
  exact shapeCast_apply _ _ (at3 a b (0 : Fin 1)) (ix2 a b) (by
    rw [Shape.rowMajor_val_three, Shape.rowMajor_val_two]
    show a.val * N + b.val = (a.val * N + b.val) * 1 + 0
    omega)

include hv in
theorem rowTops_apply (a : Fin 6144) (b : Fin N) : rowTops N D hD hr v (ix2 a b) = rowMax V a.val b.val := by
  unfold rowTops
  refine (Ideal.multiReduction_maximumf_single _ _ _ _ _ _).trans (fold_top fun k => ?_)
  have hk : k.val < 128 := k.isLt
  have hl : hr.lift (ix2 a b) k = at3 a b k := by
    funext c; apply Fin.ext; fin_cases c <;> rfl
  show max (shapeCast (M3 6144 N 128) v (casts_cols N D hD) (hr.lift (ix2 a b) k))
    (-shapeCast (M3 6144 N 128) v (casts_cols N D hD) (hr.lift (ix2 a b) k)) = _
  rw [hl, groupCols_apply N D hD v a b k ⟨128 * b.val + k.val, by omega⟩ rfl, hv]

include hv in
theorem rowCodes_apply (a : Fin 6144) (d : Fin D) : rowCodes N D hD hr h9 v (ix2 a d) = rowCode V a.val d.val := by
  have hm : d.val % 128 < 128 := Nat.mod_lt _ (by decide)
  have hb : d.val / 128 < N := by omega
  have hd : d.val = 128 * (d.val / 128) + d.val % 128 := by omega
  unfold rowCodes rowCode
  rw [ungroupCols_apply N D hD _ a ⟨d.val / 128, hb⟩ ⟨d.val % 128, hm⟩ d hd]
  refine (encode_apply _ _ _ _ (rowMax V a.val (d.val / 128)) ?_).trans ?_
  · rw [spreadCols_apply, refDown_apply, rowTops_apply N D hD hr hv]
  · rw [groupCols_apply N D hD v a ⟨d.val / 128, hb⟩ ⟨d.val % 128, hm⟩ d hd, hv]

include hv in
theorem rowScales_apply (a : Fin 6144) (b : Fin N) : refUp (rowTops N D hD hr v) (ix2 a b) = rowScale V a.val b.val := by
  rw [refUp_apply, rowTops_apply N D hD hr hv]; rfl

/-- Grouping rows, at an index. -/
theorem groupRows_apply (x : (M2 6144 D).Idx → EReal) (b : Fin 48) (k : Fin 128) (d : Fin D) (a : Fin 6144)
    (ha : a.val = 128 * b.val + k.val) : shapeCast (M3 48 128 D) x (Scaled.casts_group D) (at3 b k d) = x (ix2 a d) :=
  shapeCast_apply _ _ _ _ (by
    rw [Shape.rowMajor_val_three, Shape.rowMajor_val_two]
    show a.val * D + d.val = (b.val * 128 + k.val) * D + d.val
    rw [ha, Nat.mul_comm 128])

/-- Ungrouping rows, at an index. -/
theorem ungroupRows_apply (x : (M3 48 128 D).Idx → EReal) (b : Fin 48) (k : Fin 128) (d : Fin D) (a : Fin 6144)
    (ha : a.val = 128 * b.val + k.val) : shapeCast (M2 6144 D) x (Scaled.casts_ungroup D) (ix2 a d) = x (at3 b k d) :=
  shapeCast_apply _ _ _ _ (by
    rw [Shape.rowMajor_val_three, Shape.rowMajor_val_two]
    show (b.val * 128 + k.val) * D + d.val = a.val * D + d.val
    rw [ha, Nat.mul_comm 128])

/-- A row of scales, repeated over its group. -/
theorem spreadRows_apply (x : (M2 48 D).Idx → EReal) (b : Fin 48) (k : Fin 128) (d : Fin D) :
    broadcastTo (M3 48 128 D) (shapeCast (M3 48 1 D) x (Scaled.casts_scale D)) (Scaled.group_broadcasts D) (at3 b k d) = x (ix2 b d) := by
  rw [broadcastTo_apply _ _ (at3 b k d) (at3 b (0 : Fin 1) d) (fun c => by
    fin_cases c
    · rfl
    · rfl
    · show d.val = if D = 1 then 0 else d.val
      split
      · omega
      · rfl)]
  exact shapeCast_apply _ _ (at3 b (0 : Fin 1) d) (ix2 b d) (by
    rw [Shape.rowMajor_val_three, Shape.rowMajor_val_two]
    show b.val * D + d.val = (b.val * 1 + 0) * D + d.val
    rw [Nat.mul_one, Nat.add_zero])

include hv in
theorem colTops_apply (b : Fin 48) (d : Fin D) : colTops D hc v (ix2 b d) = colMax V b.val d.val := by
  unfold colTops
  refine (Ideal.multiReduction_maximumf_single _ _ _ _ _ _).trans (fold_top fun k => ?_)
  have hk : k.val < 128 := k.isLt
  have hl : hc.lift (ix2 b d) k = at3 b k d := by
    funext c; apply Fin.ext; fin_cases c <;> rfl
  show max (shapeCast (M3 48 128 D) v (Scaled.casts_group D) (hc.lift (ix2 b d) k))
    (-shapeCast (M3 48 128 D) v (Scaled.casts_group D) (hc.lift (ix2 b d) k)) = _
  rw [hl, groupRows_apply D v b k d ⟨128 * b.val + k.val, by omega⟩ rfl, hv]

include hv in
theorem colCodes_apply (a : Fin 6144) (d : Fin D) : colCodes D hc h9 v (ix2 a d) = colCode V a.val d.val := by
  have hm : a.val % 128 < 128 := Nat.mod_lt _ (by decide)
  have hb : a.val / 128 < 48 := by omega
  have ha : a.val = 128 * (a.val / 128) + a.val % 128 := by omega
  unfold colCodes colCode
  rw [ungroupRows_apply D _ ⟨a.val / 128, hb⟩ ⟨a.val % 128, hm⟩ d a ha]
  refine (encode_apply _ _ _ _ (colMax V (a.val / 128) d.val) ?_).trans ?_
  · rw [spreadRows_apply, refDown_apply, colTops_apply D hc hv]
  · rw [groupRows_apply D v ⟨a.val / 128, hb⟩ ⟨a.val % 128, hm⟩ d a ha, hv]

include hv in
theorem colScales_apply (t : Fin 24) (b : Fin 2) (d : Fin D) :
    colScales D hc v (at3 t b d) = colScale V (2 * t.val + b.val) d.val := by
  unfold colScales
  rw [shapeCast_apply _ _ (at3 t b d) (ix2 (⟨2 * t.val + b.val, by omega⟩ : Fin 48) d) (by
    rw [Shape.rowMajor_val_three, Shape.rowMajor_val_two]
    show (2 * t.val + b.val) * D + d.val = (t.val * 2 + b.val) * D + d.val
    rw [Nat.mul_comm 2]), refUp_apply, colTops_apply D hc hv]
  rfl

end Quant

section Product
variable (h8 : FTy.bits .fp8e5m2 < FTy.bits .bf16) (h9 : FTy.bits .fp8e5m2 < FTy.bits .f32) (hw : FTy.bits .fp8e4m3 < FTy.bits .bf16)
  (hb : FTy.bits .bf16 < FTy.bits .f32) (hr : (M3 6144 32 128).Reduces [2] (M2 6144 32))
  (dy : FVec Ideal (M2 6144 4096) .bf16) (gu : FVec Ideal (M2 6144 6912) .bf16) (w : FVec Ideal (M2 3456 4096) .fp8e4m3)
  (ws : FVec Ideal (M2 27 32) .f32)

/-- `dy`, widened, holds the same entries. -/
theorem wide_is : MatIs (extf (F := Ideal) .f32 dy hb) (nat2 dy) := matIs_nat2 dy

theorem left_apply (a : Fin 6144) (k : Fin 4096) :
    left h8 h9 hb hr dy (ix2 a k) = rowCode (nat2 dy) a.val k.val * rowScale (nat2 dy) a.val (k.val / 128) := by
  have hm : k.val % 128 < 128 := Nat.mod_lt _ (by decide)
  have hk : k.val = 128 * (k.val / 128) + k.val % 128 := by omega
  unfold left
  refine (ungroupCols_apply 32 4096 rfl _ a ⟨k.val / 128, by omega⟩ ⟨k.val % 128, hm⟩ k hk).trans ?_
  rw [mulf_apply, groupCols_apply 32 4096 rfl _ a ⟨k.val / 128, by omega⟩ ⟨k.val % 128, hm⟩ k hk, extf_apply,
    rowCodes_apply 32 4096 rfl hr h9 (wide_is hb dy), spreadCols_apply, truncf_apply, rowScales_apply 32 4096 rfl hr (wide_is hb dy)]

theorem right_apply (c : Fin 3456) (k : Fin 4096) :
    right hw hb w ws (ix2 c k) = nat2 w c.val k.val * nat2 ws (c.val / 128) (k.val / 128) := by
  have hm : k.val % 128 < 128 := Nat.mod_lt _ (by decide)
  have hn : c.val % 128 < 128 := Nat.mod_lt _ (by decide)
  have hc : c.val / 128 < 27 := by omega
  have hk : k.val / 128 < 32 := by omega
  have e : ((c.val / 128 * 128 + c.val % 128) * 32 + k.val / 128) * 128 + k.val % 128 = c.val * 4096 + k.val := by omega
  unfold right
  rw [nat2_of w _ _ c.isLt k.isLt, nat2_of ws _ _ hc hk,
    shapeCast_apply _ _ (ix2 c k) (at4 (⟨c.val / 128, hc⟩ : Fin 27) ⟨c.val % 128, hn⟩ (⟨k.val / 128, hk⟩ : Fin 32) ⟨k.val % 128, hm⟩) (by
      rw [Shape.rowMajor_val_four, Shape.rowMajor_val_two]; exact e), mulf_apply,
    shapeCast_apply _ _ (at4 (⟨c.val / 128, hc⟩ : Fin 27) ⟨c.val % 128, hn⟩ (⟨k.val / 128, hk⟩ : Fin 32) ⟨k.val % 128, hm⟩) (ix2 c k) (by
      rw [Shape.rowMajor_val_four, Shape.rowMajor_val_two]; exact e.symm), extf_apply,
    broadcastTo_apply _ _ (at4 (⟨c.val / 128, hc⟩ : Fin 27) ⟨c.val % 128, hn⟩ (⟨k.val / 128, hk⟩ : Fin 32) ⟨k.val % 128, hm⟩)
      (at4 (⟨c.val / 128, hc⟩ : Fin 27) (0 : Fin 1) (⟨k.val / 128, hk⟩ : Fin 32) (0 : Fin 1)) (fun a => by fin_cases a <;> rfl),
    shapeCast_apply _ _ (at4 (⟨c.val / 128, hc⟩ : Fin 27) (0 : Fin 1) (⟨k.val / 128, hk⟩ : Fin 32) (0 : Fin 1))
      (ix2 (⟨c.val / 128, hc⟩ : Fin 27) (⟨k.val / 128, hk⟩ : Fin 32)) (by
      rw [Shape.rowMajor_val_four, Shape.rowMajor_val_two]
      show c.val / 128 * 32 + k.val / 128 = ((c.val / 128 * 1 + 0) * 32 + k.val / 128) * 1 + 0
      omega), truncf_apply]

/-- The product of the whole arrays. -/
def daAll (dy : (M2 6144 4096).Idx → EReal) (w : (M2 3456 4096).Idx → EReal) (ws : (M2 27 32).Idx → EReal) : ℕ → ℕ → EReal :=
  dA (nat2 dy) (nat2 w) (fun f k => nat2 ws f (k / 128))

theorem product_is : MatIs (product h8 h9 hw hb hr dy w ws) (daAll dy w ws) := by
  intro a f
  unfold product
  show FloatOps.matmul (DotDims.transposedRhs 6144 4096 3456) none (left h8 h9 hb hr dy) (right hw hb w ws)
    (constant (M2 6144 3456) .f32 0x00000000#32) (ix2 a f) = _
  rw [Ideal.matmul_transposedRhs_apply]
  show Ideal.ofBits .f32 0x00000000#32 + _ = _
  rw [Ideal.ofBits_zero_f32, zero_add]
  unfold daAll dA
  exact Finset.sum_congr rfl fun k _ => by rw [left_apply, right_apply]

theorem half_is (o : ℕ) (h : o + 3456 ≤ 6912) : MatIs (half hb gu o h) fun a j => nat2 gu a (o + j) := by
  intro a j
  unfold half
  rw [extf_apply]
  refine (extractStridedSlice_apply (s := M2 6144 6912) (t := M2 6144 3456) _ _ _ (ix2 a j) (ix2 a ⟨o + j.val, by omega⟩) (fun c => by
    fin_cases c
    · exact (Nat.zero_add _).symm
    · rfl)).trans ?_
  exact (nat2_of gu a.val (o + j.val) a.isLt (by omega)).symm

theorem gradient_is : MatIs (gradient h8 h9 hw hb hr dy gu w ws) (hAll dy gu w ws) := by
  intro a j
  have hm : j.val % 3456 < 3456 := Nat.mod_lt _ (by decide)
  have hd : j.val / 3456 < 2 := by omega
  have hda := product_is h8 h9 hw hb hr dy w ws a ⟨j.val % 3456, hm⟩
  have hg : half hb gu 0 (by omega) (ix2 a ⟨j.val % 3456, hm⟩) = nat2 gu a.val (j.val % 3456) :=
    (half_is hb gu 0 (by omega) a ⟨j.val % 3456, hm⟩).trans (congrArg (nat2 gu a.val) (Nat.zero_add _))
  have hu := half_is hb gu 3456 (by omega) a ⟨j.val % 3456, hm⟩
  unfold gradient gradientOf
  refine (concatenate_ofFn_apply (t := M2 6144 6912) (s₁ := M2 6144 3456) 1 (fun k : Fin 2 => if k.val = 0
    then gate (product h8 h9 hw hb hr dy w ws) (half hb gu 0 (by omega)) (half hb gu 3456 (by omega))
    else value (product h8 h9 hw hb hr dy w ws) (half hb gu 0 (by omega))) halves_concatenate rfl 3456 rfl
    (ix2 a j) ⟨j.val / 3456, hd⟩ rfl (ix2 a ⟨j.val % 3456, hm⟩) rfl (fun b hb' => by
      fin_cases b
      · rfl
      · exact absurd rfl hb')).trans ?_
  unfold hAll dH
  by_cases h : j.val < 3456
  · have hj : j.val % 3456 = j.val := Nat.mod_eq_of_lt h
    have h0 : j.val / 3456 = 0 := by omega
    rw [if_pos h]
    show (if j.val / 3456 = 0 then _ else _ : FVec Ideal (M2 6144 3456) .f32) _ = _
    rw [if_pos h0]
    show gateS (product h8 h9 hw hb hr dy w ws (ix2 a ⟨j.val % 3456, hm⟩)) (half hb gu 0 (by omega) (ix2 a ⟨j.val % 3456, hm⟩))
      (half hb gu 3456 (by omega) (ix2 a ⟨j.val % 3456, hm⟩)) = _
    rw [hda, hg, hu]
    show gateS (daAll dy w ws a.val (j.val % 3456)) (nat2 gu a.val (j.val % 3456)) (nat2 gu a.val (3456 + j.val % 3456)) = _
    rw [hj]; rfl
  · have hj : j.val % 3456 = j.val - 3456 := by omega
    have h0 : ¬ j.val / 3456 = 0 := by omega
    rw [if_neg h]
    show (if j.val / 3456 = 0 then _ else _ : FVec Ideal (M2 6144 3456) .f32) _ = _
    rw [if_neg h0]
    show valueS (product h8 h9 hw hb hr dy w ws (ix2 a ⟨j.val % 3456, hm⟩)) (half hb gu 0 (by omega) (ix2 a ⟨j.val % 3456, hm⟩)) = _
    rw [hda, hg]
    show valueS (daAll dy w ws a.val (j.val % 3456)) (nat2 gu a.val (j.val % 3456)) = _
    rw [hj]; rfl

end Product

end Cert.Proof.DhRef

end
-- ==== Proof.DhRef.lean ====
/-
  Hand-written. Over the extended reals, what the gradient's reference writes into each of its eight result arrays.
-/
module

public import proofs.«01_k».proof.Proof.DhRefRun
public import proofs.«01_k».proof.Proof.DhRefValue

@[expose] public section

set_option maxRecDepth 16384

noncomputable section

namespace Cert.Proof.DhRef

open Idealize.ShloMosaic hiding ix1 ix2 eq_ix2 mulf_apply extf_apply truncf_apply
open Idealize.ShloMosaic.ValueIdx
open Cert.Proof.Scaled (M2 M3 at3)
open Cert.Proof.Dh
open Cert.DhRefIdeal Cert.DhRefIdeal.Gen

/-- Rows of 32 groups reduce to 32 values. -/
theorem reduces_32 : (M3 6144 32 128).Reduces [2] (M2 6144 32) := by decide
/-- Rows of 54 groups reduce to 54 values. -/
theorem reduces_54 : (M3 6144 54 128).Reduces [2] (M2 6144 54) := by decide
/-- Columns of groups reduce to one value each. -/
theorem reduces_4096 : (M3 48 128 4096).Reduces [1] (M2 48 4096) := by decide
/-- Columns of groups reduce to one value each. -/
theorem reduces_6912 : (M3 48 128 6912).Reduces [1] (M2 48 6912) := by decide
/-- The widths of the formats. -/
theorem bits_e5m2_bf16 : FTy.bits .fp8e5m2 < FTy.bits .bf16 := by decide
/-- The widths of the formats. -/
theorem bits_e5m2_f32 : FTy.bits .fp8e5m2 < FTy.bits .f32 := by decide
/-- The widths of the formats. -/
theorem bits_e4m3_bf16 : FTy.bits .fp8e4m3 < FTy.bits .bf16 := by decide
/-- The widths of the formats. -/
theorem bits_bf16_f32 : FTy.bits .bf16 < FTy.bits .f32 := by decide

/-- An index of a plane, by its coordinates. -/
theorem eq_at3 {A B C : ℕ} (y : (M3 A B C).Idx) : y = at3 (y 0) (y 1) (y 2) := by
  funext c; fin_cases c <;> rfl

/-- `dy`, widened. -/
abbrev wide (dy : Vec Ideal (M2 6144 4096) .bf16) : FVec Ideal (M2 6144 4096) .f32 := extf (F := Ideal) .f32 dy bits_bf16_f32
/-- The gradient of the activation. -/
abbrev grad (dy : Vec Ideal (M2 6144 4096) .bf16) (gu : Vec Ideal (M2 6144 6912) .bf16) (w : Vec Ideal (M2 3456 4096) .fp8e4m3)
    (ws : Vec Ideal (M2 27 32) .f32) : FVec Ideal (M2 6144 6912) .f32 :=
  gradient (F := Ideal) bits_e5m2_bf16 bits_e5m2_f32 bits_e4m3_bf16 bits_bf16_f32 reduces_32 dy gu w ws

/-! ### The reference's operations, named -/

section Any
variable {F : FTy → Type} [FloatOps F]
variable (dy : Vec F (M2 6144 4096) .bf16) (gu : Vec F (M2 6144 6912) .bf16) (w : Vec F (M2 3456 4096) .fp8e4m3) (ws : Vec F (M2 27 32) .f32)
  (da g u : FVec F (M2 6144 3456) .f32)

/-! A load of a whole array is the array. -/
theorem ld_dy : View.ld dy r0_0 = dy := View.ld_unit_zero (S := S6144x4096) DhRefRun.zero2 _ dy
theorem ld_w : View.ld w r0_1 = w := View.ld_unit_zero (S := S3456x4096) DhRefRun.zero2 _ w
theorem ld_ws : View.ld ws r0_2 = ws := View.ld_unit_zero (S := S27x32) DhRefRun.zero2 _ ws
theorem ld_gu : View.ld gu r0_3 = gu := View.ld_unit_zero (S := S6144x6912) DhRefRun.zero2 _ gu

theorem rowScales_dy : k0_pay4 dy = refUp (rowTops 32 4096 rfl reduces_32 (extf .f32 dy bits_bf16_f32)) := by sl_kernel_rfl
theorem rowCodes_dy : k0_pay5 dy = rowCodes 32 4096 rfl reduces_32 bits_e5m2_f32 (extf .f32 dy bits_bf16_f32) := by sl_kernel_rfl
theorem colCodes_dy : k0_pay11 (k0_pay6 dy) (k0_pay7 dy) (k0_pay8 dy)
    = colCodes 4096 reduces_4096 bits_e5m2_f32 (extf .f32 dy bits_bf16_f32) := by sl_kernel_rfl
theorem colScales_dy : k0_pay27 (k0_pay10 (k0_pay7 dy) (k0_pay8 dy))
    = colScales 4096 reduces_4096 (extf .f32 dy bits_bf16_f32) := by sl_kernel_rfl
theorem product_dy : k0_pay12 (k0_pay4 dy) (k0_pay5 dy) w ws
    = product bits_e5m2_bf16 bits_e5m2_f32 bits_e4m3_bf16 bits_bf16_f32 reduces_32 dy w ws := by
  rw [rowScales_dy, rowCodes_dy]; sl_kernel_rfl
theorem half_g : k0_pay13 gu = half bits_bf16_f32 gu 0 (by omega) := by sl_kernel_rfl
theorem logistic_g : k0_pay14 gu = logistic (half bits_bf16_f32 gu 0 (by omega)) := by sl_kernel_rfl
theorem times_u (s : FVec F (M2 6144 32) .f32) (q : FVec F (M2 6144 4096) .fp8e5m2) :
    k0_pay15 s q w ws gu = mulf (k0_pay12 s q w ws) (half bits_bf16_f32 gu 3456 (by omega)) := by sl_kernel_rfl
theorem rowCodes_of : k0_pay20 da g (logistic g) (mulf da u) = rowCodes 54 6912 rfl reduces_54 bits_e5m2_f32 (gradientOf da g u) := by sl_kernel_rfl
theorem rowScales_of : k0_pay19 da g (logistic g) (mulf da u) = refUp (rowTops 54 6912 rfl reduces_54 (gradientOf da g u)) := by sl_kernel_rfl
theorem colCodes_of : k0_pay26 (k0_pay21 da g (logistic g) (mulf da u)) (k0_pay22 da g (logistic g) (mulf da u)) (k0_pay23 (F := F))
    = colCodes 6912 reduces_6912 bits_e5m2_f32 (gradientOf da g u) := by sl_kernel_rfl
theorem colScales_of : k0_pay1 (k0_pay25 (k0_pay22 da g (logistic g) (mulf da u)) (k0_pay23 (F := F)))
    = colScales 6912 reduces_6912 (gradientOf da g u) := by sl_kernel_rfl

/-! What each result array holds. -/

theorem G4_eq : DhRefRun.G4 dy gu w ws = rowCodes 32 4096 rfl reduces_32 bits_e5m2_f32 (extf .f32 dy bits_bf16_f32) := by
  unfold DhRefRun.G4 k0_pay29
  rw [ld_dy]; exact rowCodes_dy dy
theorem G5_eq : DhRefRun.G5 dy gu w ws = refUp (rowTops 32 4096 rfl reduces_32 (extf .f32 dy bits_bf16_f32)) := by
  unfold DhRefRun.G5 k0_pay28
  rw [ld_dy]; exact rowScales_dy dy
theorem G6_eq : DhRefRun.G6 dy gu w ws = colCodes 4096 reduces_4096 bits_e5m2_f32 (extf .f32 dy bits_bf16_f32) := by
  unfold DhRefRun.G6 k0_pay30 k0_pay31
  rw [ld_dy]; exact colCodes_dy dy
theorem G7_eq : DhRefRun.G7 dy gu w ws = colScales 4096 reduces_4096 (extf .f32 dy bits_bf16_f32) := by
  unfold DhRefRun.G7 k0_pay30 k0_pay31
  rw [ld_dy]; exact colScales_dy dy

/-- The product, as the reference names it. -/
theorem pay_product : k0_pay32 dy gu w ws
    = product bits_e5m2_bf16 bits_e5m2_f32 bits_e4m3_bf16 bits_bf16_f32 reduces_32 dy w ws := by
  unfold k0_pay32 k0_pay28 k0_pay29
  rw [ld_dy, ld_w, ld_ws]; exact product_dy dy w ws
theorem pay_g : k0_pay33 dy gu w ws = half bits_bf16_f32 gu 0 (by omega) := by
  unfold k0_pay33
  rw [ld_gu]; exact half_g gu
theorem pay_logistic : k0_pay34 dy gu w ws = logistic (half bits_bf16_f32 gu 0 (by omega)) := by
  unfold k0_pay34
  rw [ld_gu]; exact logistic_g gu
theorem pay_times : k0_pay35 dy gu w ws
    = mulf (product bits_e5m2_bf16 bits_e5m2_f32 bits_e4m3_bf16 bits_bf16_f32 reduces_32 dy w ws) (half bits_bf16_f32 gu 3456 (by omega)) := by
  unfold k0_pay35 k0_pay28 k0_pay29
  rw [ld_dy, ld_w, ld_ws, ld_gu, times_u, product_dy]

theorem G8_eq : DhRefRun.G8 dy gu w ws = rowCodes 54 6912 rfl reduces_54 bits_e5m2_f32
    (gradient bits_e5m2_bf16 bits_e5m2_f32 bits_e4m3_bf16 bits_bf16_f32 reduces_32 dy gu w ws) := by
  unfold DhRefRun.G8 gradient
  rw [pay_product, pay_g, pay_logistic, pay_times]; exact rowCodes_of _ _ _
theorem G9_eq : DhRefRun.G9 dy gu w ws = refUp (rowTops 54 6912 rfl reduces_54
    (gradient bits_e5m2_bf16 bits_e5m2_f32 bits_e4m3_bf16 bits_bf16_f32 reduces_32 dy gu w ws)) := by
  unfold DhRefRun.G9 gradient
  rw [pay_product, pay_g, pay_logistic, pay_times]; exact rowScales_of _ _ _
theorem G10_eq : DhRefRun.G10 dy gu w ws = colCodes 6912 reduces_6912 bits_e5m2_f32
    (gradient bits_e5m2_bf16 bits_e5m2_f32 bits_e4m3_bf16 bits_bf16_f32 reduces_32 dy gu w ws) := by
  unfold DhRefRun.G10 k0_pay36 k0_pay37 gradient
  rw [pay_product, pay_g, pay_logistic, pay_times]; exact colCodes_of _ _ _
theorem G11_eq : DhRefRun.G11 dy gu w ws = colScales 6912 reduces_6912
    (gradient bits_e5m2_bf16 bits_e5m2_f32 bits_e4m3_bf16 bits_bf16_f32 reduces_32 dy gu w ws) := by
  unfold DhRefRun.G11 k0_pay36 k0_pay37 gradient
  rw [pay_product, pay_g, pay_logistic, pay_times]; exact colScales_of _ _ _

end Any

variable (dy : Vec Ideal (M2 6144 4096) .bf16) (gu : Vec Ideal (M2 6144 6912) .bf16) (w : Vec Ideal (M2 3456 4096) .fp8e4m3)
  (ws : Vec Ideal (M2 27 32) .f32)

theorem grad_is : MatIs (grad dy gu w ws) (hAll dy gu w ws) :=
  gradient_is bits_e5m2_bf16 bits_e5m2_f32 bits_e4m3_bf16 bits_bf16_f32 reduces_32 dy gu w ws

/-- The codes of `dy` along rows. -/
theorem g4 : DhRefRun.G4 (F := Ideal) dy gu w ws
    = fun y : (M2 6144 4096).Idx => rowCode (nat2 dy) (y 0).val (y 1).val := by
  have h : rowCodes (F := Ideal) 32 4096 rfl reduces_32 bits_e5m2_f32 (wide dy)
      = fun y : (M2 6144 4096).Idx => rowCode (nat2 dy) (y 0).val (y 1).val := funext fun y => by
    rw [eq_ix2 y]; exact rowCodes_apply 32 4096 rfl reduces_32 bits_e5m2_f32 (wide_is bits_bf16_f32 dy) _ _
  exact (G4_eq dy gu w ws).trans h

/-- Their scales. -/
theorem g5 : DhRefRun.G5 (F := Ideal) dy gu w ws
    = fun y : (M2 6144 32).Idx => rowScale (nat2 dy) (y 0).val (y 1).val := by
  have h : refUp (rowTops (F := Ideal) 32 4096 rfl reduces_32 (wide dy))
      = fun y : (M2 6144 32).Idx => rowScale (nat2 dy) (y 0).val (y 1).val := funext fun y => by
    rw [eq_ix2 y]; exact rowScales_apply 32 4096 rfl reduces_32 (wide_is bits_bf16_f32 dy) _ _
  exact (G5_eq dy gu w ws).trans h

/-- The codes of `dy` along columns. -/
theorem g6 : DhRefRun.G6 (F := Ideal) dy gu w ws
    = fun y : (M2 6144 4096).Idx => colCode (nat2 dy) (y 0).val (y 1).val := by
  have h : colCodes (F := Ideal) 4096 reduces_4096 bits_e5m2_f32 (wide dy)
      = fun y : (M2 6144 4096).Idx => colCode (nat2 dy) (y 0).val (y 1).val := funext fun y => by
    rw [eq_ix2 y]; exact colCodes_apply 4096 reduces_4096 bits_e5m2_f32 (wide_is bits_bf16_f32 dy) _ _
  exact (G6_eq dy gu w ws).trans h

/-- Their scales. -/
theorem g7 : DhRefRun.G7 (F := Ideal) dy gu w ws
    = fun y : (M3 24 2 4096).Idx => colScale (nat2 dy) (2 * (y 0).val + (y 1).val) (y 2).val := by
  have h : colScales (F := Ideal) 4096 reduces_4096 (wide dy)
      = fun y : (M3 24 2 4096).Idx => colScale (nat2 dy) (2 * (y 0).val + (y 1).val) (y 2).val := funext fun y => by
    rw [eq_at3 y]; exact colScales_apply 4096 reduces_4096 (wide_is bits_bf16_f32 dy) _ _ _
  exact (G7_eq dy gu w ws).trans h

/-- The codes of the gradient along rows. -/
theorem g8 : DhRefRun.G8 (F := Ideal) dy gu w ws
    = fun y : (M2 6144 6912).Idx => rowCode (hAll dy gu w ws) (y 0).val (y 1).val := by
  have h : rowCodes (F := Ideal) 54 6912 rfl reduces_54 bits_e5m2_f32 (grad dy gu w ws)
      = fun y : (M2 6144 6912).Idx => rowCode (hAll dy gu w ws) (y 0).val (y 1).val := funext fun y => by
    rw [eq_ix2 y]; exact rowCodes_apply 54 6912 rfl reduces_54 bits_e5m2_f32 (grad_is dy gu w ws) _ _
  exact (G8_eq dy gu w ws).trans h

/-- Their scales. -/
theorem g9 : DhRefRun.G9 (F := Ideal) dy gu w ws
    = fun y : (M2 6144 54).Idx => rowScale (hAll dy gu w ws) (y 0).val (y 1).val := by
  have h : refUp (rowTops (F := Ideal) 54 6912 rfl reduces_54 (grad dy gu w ws))
      = fun y : (M2 6144 54).Idx => rowScale (hAll dy gu w ws) (y 0).val (y 1).val := funext fun y => by
    rw [eq_ix2 y]; exact rowScales_apply 54 6912 rfl reduces_54 (grad_is dy gu w ws) _ _
  exact (G9_eq dy gu w ws).trans h

/-- The codes of the gradient along columns. -/
theorem g10 : DhRefRun.G10 (F := Ideal) dy gu w ws
    = fun y : (M2 6144 6912).Idx => colCode (hAll dy gu w ws) (y 0).val (y 1).val := by
  have h : colCodes (F := Ideal) 6912 reduces_6912 bits_e5m2_f32 (grad dy gu w ws)
      = fun y : (M2 6144 6912).Idx => colCode (hAll dy gu w ws) (y 0).val (y 1).val := funext fun y => by
    rw [eq_ix2 y]; exact colCodes_apply 6912 reduces_6912 bits_e5m2_f32 (grad_is dy gu w ws) _ _
  exact (G10_eq dy gu w ws).trans h

/-- Their scales. -/
theorem g11 : DhRefRun.G11 (F := Ideal) dy gu w ws
    = fun y : (M3 24 2 6912).Idx => colScale (hAll dy gu w ws) (2 * (y 0).val + (y 1).val) (y 2).val := by
  have h : colScales (F := Ideal) 6912 reduces_6912 (grad dy gu w ws)
      = fun y : (M3 24 2 6912).Idx => colScale (hAll dy gu w ws) (2 * (y 0).val + (y 1).val) (y 2).val := funext fun y => by
    rw [eq_at3 y]; exact colScales_apply 6912 reduces_6912 (grad_is dy gu w ws) _ _ _
  exact (G11_eq dy gu w ws).trans h

end Cert.Proof.DhRef

end
-- ==== Proof.Refs.lean ====
/-
  Hand-written. Over the extended reals, what each of the three reference programs writes: the product of its two
  scaled operands, at every index.
-/
module

public import proofs.«01_k».proof.Proof.Gen.DxRefIdeal.Value
public import proofs.«01_k».proof.Proof.Gen.Dw1RefIdeal.Value
public import proofs.«01_k».proof.Proof.Gen.Dw2RefIdeal.Value
public import proofs.«01_k».proof.Proof.ColDot

@[expose] public section

set_option maxRecDepth 16384

noncomputable section

namespace Cert.Proof.Refs

open Idealize.ShloMosaic hiding ix2 eq_ix2
open Idealize.ShloMosaic.ValueIdx (ix2 eq_ix2)
open Cert.Proof.Scaled (M2)

/-- dX's reference is the product over columns of the two scaled arrays. -/
theorem dx (x : Vec Ideal (M2 6144 6912) .fp8e5m2) (s : Vec Ideal (M2 6144 54) .f32) (w : Vec Ideal (M2 4096 6912) .fp8e4m3) (ws : Vec Ideal (M2 32 54) .f32) :
    Cert.DxRefIdeal.Value.G4 (F := Ideal) x s w ws = fun y => DxBlock.prodAt (φ := .fp8e5m2) (ψ := .fp8e4m3) x s w
      (fun a k => ws (ix2 (⟨a.val / 128, by omega⟩ : Fin 32) (DxBlock.colBlock k))) (y 0 : Fin 6144) (y 1 : Fin 4096) := by
  refine Eq.trans ?_ (ColDot.colProd_eq (by decide) (by decide) (by decide) x s w ws)
  sl_kernel_rfl

/-- dW1's reference is the product over rows of the two scaled arrays. -/
theorem dw1 (x0 : Vec Ideal (M2 6144 4096) .fp8e4m3) (s0 : Vec Ideal (M2 48 4096) .f32) (x1 : Vec Ideal (M2 6144 6912) .fp8e5m2) (s1 : Vec Ideal (M2 48 6912) .f32) :
    Cert.Dw1RefIdeal.Value.G4 (F := Ideal) x0 s0 x1 s1 = fun y => Scaled.prodAt (φ := .fp8e4m3) (ψ := .fp8e5m2) x0 s0 x1 s1
      (y 0 : Fin 4096) (y 1 : Fin 6912) := by
  refine Eq.trans ?_ (Scaled.rowProd_eq 4096 6912 (by decide) (by decide) (by decide) x0 s0 x1 s1)
  sl_kernel_rfl

/-- dW2's reference is the product over rows of the two scaled arrays. -/
theorem dw2 (x0 : Vec Ideal (M2 6144 3456) .fp8e4m3) (s0 : Vec Ideal (M2 48 3456) .f32) (x1 : Vec Ideal (M2 6144 4096) .fp8e5m2) (s1 : Vec Ideal (M2 48 4096) .f32) :
    Cert.Dw2RefIdeal.Value.G4 (F := Ideal) x0 s0 x1 s1 = fun y => Scaled.prodAt (φ := .fp8e4m3) (ψ := .fp8e5m2) x0 s0 x1 s1
      (y 0 : Fin 3456) (y 1 : Fin 4096) := by
  refine Eq.trans ?_ (Scaled.rowProd_eq 3456 4096 (by decide) (by decide) (by decide) x0 s0 x1 s1)
  sl_kernel_rfl

end Cert.Proof.Refs

end
-- ==== Proof.lean ====
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1RefIdeal
public import proofs.«01_k».proof.Proof.Gen.Dw1RefIdeal.Skeleton
public import proofs.«01_k».proof.Proof.Gen.Dw1RefIdeal.Launch
public import proofs.«01_k».proof.Proof.Gen.Dw1RefIdeal.Points
public import proofs.«01_k».proof.Proof.Gen.Dw1RefIdeal.Frame
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dw2RefIdeal.Skeleton
public import proofs.«01_k».proof.Proof.Gen.Dw2RefIdeal.Launch
public import proofs.«01_k».proof.Proof.Gen.Dw2RefIdeal.Points
public import proofs.«01_k».proof.Proof.Gen.Dw2RefIdeal.Frame
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Skeleton
public import proofs.«01_k».proof.Proof.Gen.DhRefIdeal.Launch
public import proofs.«01_k».proof.Proof.Gen.DhRefIdeal.Points
public import proofs.«01_k».proof.Proof.Gen.DhRefIdeal.Frame
public import proofs.«01_k».proof.Proof.Gen.DxIdeal.Value
public import proofs.«01_k».proof.Proof.Gen.DhIdeal.Value
public import proofs.«01_k».proof.Proof.Gen.DxRefIdeal.Value
public import proofs.«01_k».proof.Proof.Gen.Dw1Ideal.Value
public import proofs.«01_k».proof.Proof.Gen.Dw1RefIdeal.Value
public import proofs.«01_k».proof.Proof.Gen.Dw2Ideal.Value
public import proofs.«01_k».proof.Proof.Gen.Dw2RefIdeal.Value
public import proofs.«01_k».proof.Proof.DxKernel
public import proofs.«01_k».proof.Proof.Dw1Kernel
public import proofs.«01_k».proof.Proof.Dw2Kernel
public import proofs.«01_k».proof.Proof.DhKernel
public import proofs.«01_k».proof.Proof.DhRef
public import proofs.«01_k».proof.Proof.Refs
public import Idealize.ShloMosaic.Adequacy
public import Idealize.ShloMosaic.Init

@[expose] public section

noncomputable section

namespace Cert.Proof

open Idealize.ShloMosaic Idealize.SL.Sem Cert.Dx

/-- Dx, over the extended reals: the kernel and its reference leave the same result array, and both keep their arguments. -/
theorem algebraic_dx : Cert.algebraic_DxIdeal_DxRefIdeal (hDxIdeal := Cert.DxIdeal.Gen.facts) (hDxRefIdeal := Cert.DxRefIdeal.Gen.facts) := by
  letI := Cert.DxIdeal.Gen.facts
  letI := Cert.DxRefIdeal.Gen.facts
  intro m g m' g' _ hagree
  refine ⟨fun c => Cert.DxRefIdeal.Value.G4 (F := Ideal)
      (m ((c.tc : Thread _ _).loc Cert.DxIdeal.main_arg0)) (m ((c.tc : Thread _ _).loc Cert.DxIdeal.main_arg1))
      (m ((c.tc : Thread _ _).loc Cert.DxIdeal.main_arg2)) (m ((c.tc : Thread _ _).loc Cert.DxIdeal.main_arg3)),
    (θ_run _ _ _).mono (fun r h c => ⟨(h c).1.trans ((DxKernel.final m c).trans (Refs.dx _ _ _ _).symm), (h c).2⟩)
      (Cert.DxIdeal.Value.run_blocks (F := Ideal) m g),
    (θ_run _ _ _).mono (fun r h c => ⟨?_, (h c).2⟩) (Cert.DxRefIdeal.Value.run (F := Ideal) m' g')⟩
  obtain ⟨h0, h1, h2, h3⟩ := hagree c
  rw [(h c).1, h0, h1, h2, h3]

/-- Dw1, over the extended reals: the kernel and its reference leave the same result array, and both keep their arguments. -/
theorem algebraic_dw1 : Cert.algebraic_Dw1Ideal_Dw1RefIdeal (hDw1Ideal := Cert.Dw1Ideal.Gen.facts) (hDw1RefIdeal := Cert.Dw1RefIdeal.Gen.facts) := by
  letI := Cert.Dw1Ideal.Gen.facts
  letI := Cert.Dw1RefIdeal.Gen.facts
  intro m g m' g' _ hagree
  refine ⟨fun c => Cert.Dw1RefIdeal.Value.G4 (F := Ideal)
      (m ((c.tc : Thread _ _).loc Cert.Dw1Ideal.main_arg0)) (m ((c.tc : Thread _ _).loc Cert.Dw1Ideal.main_arg1))
      (m ((c.tc : Thread _ _).loc Cert.Dw1Ideal.main_arg2)) (m ((c.tc : Thread _ _).loc Cert.Dw1Ideal.main_arg3)),
    (θ_run _ _ _).mono (fun r h c => ⟨(h c).1.trans ((Dw1Kernel.final m c).trans (Refs.dw1 _ _ _ _).symm), (h c).2⟩)
      (Cert.Dw1Ideal.Value.run_blocks (F := Ideal) m g),
    (θ_run _ _ _).mono (fun r h c => ⟨?_, (h c).2⟩) (Cert.Dw1RefIdeal.Value.run (F := Ideal) m' g')⟩
  obtain ⟨h0, h1, h2, h3⟩ := hagree c
  rw [(h c).1, h0, h1, h2, h3]

/-- Dw2, over the extended reals: the kernel and its reference leave the same result array, and both keep their arguments. -/
theorem algebraic_dw2 : Cert.algebraic_Dw2Ideal_Dw2RefIdeal (hDw2Ideal := Cert.Dw2Ideal.Gen.facts) (hDw2RefIdeal := Cert.Dw2RefIdeal.Gen.facts) := by
  letI := Cert.Dw2Ideal.Gen.facts
  letI := Cert.Dw2RefIdeal.Gen.facts
  intro m g m' g' _ hagree
  refine ⟨fun c => Cert.Dw2RefIdeal.Value.G4 (F := Ideal)
      (m ((c.tc : Thread _ _).loc Cert.Dw2Ideal.main_arg0)) (m ((c.tc : Thread _ _).loc Cert.Dw2Ideal.main_arg1))
      (m ((c.tc : Thread _ _).loc Cert.Dw2Ideal.main_arg2)) (m ((c.tc : Thread _ _).loc Cert.Dw2Ideal.main_arg3)),
    (θ_run _ _ _).mono (fun r h c => ⟨(h c).1.trans ((Dw2Kernel.final m c).trans (Refs.dw2 _ _ _ _).symm), (h c).2⟩)
      (Cert.Dw2Ideal.Value.run_blocks (F := Ideal) m g),
    (θ_run _ _ _).mono (fun r h c => ⟨?_, (h c).2⟩) (Cert.Dw2RefIdeal.Value.run (F := Ideal) m' g')⟩
  obtain ⟨h0, h1, h2, h3⟩ := hagree c
  rw [(h c).1, h0, h1, h2, h3]

/-- Dh, over the extended reals: the kernel and its reference leave the same eight result arrays, and both keep their arguments. -/
theorem algebraic_dh : Cert.algebraic_DhIdeal_DhRefIdeal (hDhIdeal := Cert.DhIdeal.Gen.facts) (hDhRefIdeal := Cert.DhRefIdeal.Gen.facts) := by
  letI := Cert.DhIdeal.Gen.facts
  letI := Cert.DhRefIdeal.Gen.facts
  intro m g m' g' _ hagree
  refine ⟨fun c => DhRefRun.G4 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G5 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G6 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G7 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G8 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G9 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G10 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    fun c => DhRefRun.G11 (F := Ideal) (m ((c.tc : Thread _ _).loc Cert.DhIdeal.main_arg0)) (m ((c.tc : Thread _ _).loc Cert.DhIdeal.main_arg1)) (m ((c.tc : Thread _ _).loc Cert.DhIdeal.main_arg2)) (m ((c.tc : Thread _ _).loc Cert.DhIdeal.main_arg3)),
    (θ_run _ _ _).mono (fun r h c => ⟨(h c).1.trans ((DhKernel.final_5 m c).trans (DhRef.g4 _ _ _ _).symm), (h c).2.1.trans ((DhKernel.final_6 m c).trans (DhRef.g5 _ _ _ _).symm), (h c).2.2.1.trans ((DhKernel.final_7 m c).trans (DhRef.g6 _ _ _ _).symm), (h c).2.2.2.1.trans ((DhKernel.final_8 m c).trans (DhRef.g7 _ _ _ _).symm), (h c).2.2.2.2.1.trans ((DhKernel.final_9 m c).trans (DhRef.g8 _ _ _ _).symm), (h c).2.2.2.2.2.1.trans ((DhKernel.final_10 m c).trans (DhRef.g9 _ _ _ _).symm), (h c).2.2.2.2.2.2.1.trans ((DhKernel.final_11 m c).trans (DhRef.g10 _ _ _ _).symm), (h c).2.2.2.2.2.2.2.1.trans ((DhKernel.final_12 m c).trans (DhRef.g11 _ _ _ _).symm), (h c).2.2.2.2.2.2.2.2⟩)
      (Cert.DhIdeal.Value.run_blocks (F := Ideal) m g),
    (θ_run _ _ _).mono (fun r h c => ?_) (DhRefRun.run (F := Ideal) m' g')⟩
  have e := h c
  obtain ⟨h0, h1, h2, h3⟩ := hagree c
  refine ⟨e.1.trans ?_, e.2.1.trans ?_, e.2.2.1.trans ?_, e.2.2.2.1.trans ?_, e.2.2.2.2.1.trans ?_, e.2.2.2.2.2.1.trans ?_, e.2.2.2.2.2.2.1.trans ?_, e.2.2.2.2.2.2.2.1.trans ?_, e.2.2.2.2.2.2.2.2⟩ <;> rw [h0, h1, h2, h3]

/-- `Cert.Claim`: the frames of the twelve programs, that each idealization is its kernel, and the four value claims. -/
theorem claim : Cert.Claim := ⟨Cert.Dx.Gen.facts, Cert.DxIdeal.Gen.facts, Cert.DxRefIdeal.Gen.facts, Cert.Dw1.Gen.facts, Cert.Dw1Ideal.Gen.facts, Cert.Dw1RefIdeal.Gen.facts, Cert.Dw2.Gen.facts, Cert.Dw2Ideal.Gen.facts, Cert.Dw2RefIdeal.Gen.facts, Cert.Dh.Gen.facts, Cert.DhIdeal.Gen.facts, Cert.DhRefIdeal.Gen.facts,
  fun m ρ _ => Cert.Dx.Gen.frame m ρ, fun m ρ _ => Cert.DxIdeal.Gen.frame m ρ, fun m ρ _ => Cert.DxRefIdeal.Gen.frame m ρ, fun m ρ _ => Cert.Dw1.Gen.frame m ρ, fun m ρ _ => Cert.Dw1Ideal.Gen.frame m ρ, fun m ρ _ => Cert.Dw1RefIdeal.Gen.frame m ρ, fun m ρ _ => Cert.Dw2.Gen.frame m ρ, fun m ρ _ => Cert.Dw2Ideal.Gen.frame m ρ, fun m ρ _ => Cert.Dw2RefIdeal.Gen.frame m ρ, fun m ρ _ => Cert.Dh.Gen.frame m ρ, fun m ρ _ => Cert.DhIdeal.Gen.frame m ρ, fun m ρ _ => Cert.DhRefIdeal.Gen.frame m ρ,
  trivial, algebraic_dx, trivial, algebraic_dw1, trivial, algebraic_dw2, trivial, algebraic_dh⟩

end Cert.Proof

end
